-- ==== Defs.lean ====
def Pre_Kernel [hPre_idx_in_rows : Cert.Pre_idx_in_rows.Facts] (m : (ℓ : Loc Cert.Kernel.nD Cert.Kernel.τ Cert.Kernel.sig) → Buf (Elt Bits) ℓ) : Prop :=
  ∀ c : Dev Cert.Kernel.nD,
    (Cert.Pre_idx_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_idx_in_rows : Cert.Pre_idx_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_KernelIdeal_rows_and_finite [hPre_rows_and_finite : Cert.Pre_rows_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_and_finite [hPre_rows_and_finite : Cert.Pre_rows_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_idx_in_rows : Cert.Pre_idx_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_idx_in_rows : Cert.Pre_idx_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_rows_and_finite [hKernelIdeal : Cert.KernelIdeal.Facts] [hPre_rows_and_finite : Cert.Pre_rows_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_and_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_rows_and_finite [hReferenceIdeal : Cert.ReferenceIdeal.Facts] [hPre_rows_and_finite : Cert.Pre_rows_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_rows_and_finite [hKernelIdeal : Cert.KernelIdeal.Facts] [hReferenceIdeal : Cert.ReferenceIdeal.Facts] [hPre_rows_and_finite : Cert.Pre_rows_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_idx_in_rows : Cert.Pre_idx_in_rows.Facts) (hPre_rows_and_finite : Cert.Pre_rows_and_finite.Facts),
    quiescent_Kernel (hKernel := hKernel) (hPre_idx_in_rows := hPre_idx_in_rows)
    ∧ quiescent_KernelIdeal (hKernelIdeal := hKernelIdeal) (hPre_idx_in_rows := hPre_idx_in_rows)
    ∧ quiescent_KernelIdeal_pre_rows_and_finite (hKernelIdeal := hKernelIdeal) (hPre_rows_and_finite := hPre_rows_and_finite)
    ∧ quiescent_ReferenceIdeal (hReferenceIdeal := hReferenceIdeal)
    ∧ quiescent_ReferenceIdeal_pre_rows_and_finite (hReferenceIdeal := hReferenceIdeal) (hPre_rows_and_finite := hPre_rows_and_finite)
    ∧ preserves_Kernel_KernelIdeal
    ∧ algebraic_KernelIdeal_ReferenceIdeal_pre_rows_and_finite (hKernelIdeal := hKernelIdeal) (hReferenceIdeal := hReferenceIdeal) (hPre_rows_and_finite := hPre_rows_and_finite)
-- ==== Pre_idx_in_rows.lean ====
abbrev S4x8192x3 : Shape := ⟨3, ![4, 8192, 3]⟩
abbrev S4x64x8192 : Shape := ⟨3, ![4, 64, 8192]⟩
abbrev S4x32x2048 : Shape := ⟨3, ![4, 32, 2048]⟩
abbrev S64x67 : Shape := ⟨2, ![64, 67]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S4x32x2048 : S_.BroadcastsInDim S4x32x2048 (![] : Fin 0 → Fin S4x32x2048.rank)

variable [Facts]

def fn {F : FTy → Type} [FloatOps F] (main_arg0 : FVec F S4x8192x3 .f32) (main_arg1 : FVec F S4x64x8192 .f32) (main_arg2 : IVec S4x32x2048 32) (main_arg3 : FVec F S64x67 .f32) (main_arg4 : FVec F S64 .f32) (main_arg5 : FVec F S64 .f32) (main_arg6 : FVec F S64 .f32) (main_arg7 : FVec F S128x64 .f32) (main_arg8 : FVec F S128 .f32) (main_arg9 : FVec F S128 .f32) (main_arg10 : FVec F S128 .f32) : IVec S4x32x2048 1 :=
  let main_c : IVec S_ 32 := constantI S_ 32 0#32
  let main_v0 : IVec S4x32x2048 32 := broadcastInDim S4x32x2048 ![] bcast_S_S4x32x2048 main_c
  let main_v1 : IVec S4x32x2048 1 := cmpi .sge main_arg2 main_v0
  let main_c_0 : IVec S_ 32 := constantI S_ 32 32768#32
  let main_v2 : IVec S4x32x2048 32 := broadcastInDim S4x32x2048 ![] bcast_S_S4x32x2048 main_c_0
  let main_v3 : IVec S4x32x2048 1 := cmpi .slt main_arg2 main_v2
  let main_v4 : IVec S4x32x2048 1 := andi main_v1 main_v3
  main_v4
-- ==== Pre_rows_and_finite.lean ====
abbrev S4x8192x3 : Shape := ⟨3, ![4, 8192, 3]⟩
abbrev S4x64x8192 : Shape := ⟨3, ![4, 64, 8192]⟩
abbrev S4x32x2048 : Shape := ⟨3, ![4, 32, 2048]⟩
abbrev S64x67 : Shape := ⟨2, ![64, 67]⟩
abbrev S64 : Shape := ⟨1, ![64]⟩
abbrev S128x64 : Shape := ⟨2, ![128, 64]⟩
abbrev S128 : Shape := ⟨1, ![128]⟩
abbrev S_ : Shape := ⟨0, ![]⟩

class Facts : Prop where
  bcast_S_S4x32x2048 : S_.BroadcastsInDim S4x32x2048 (![] : Fin 0 → Fin S4x32x2048.rank)
  reducesTo_S4x32x2048_S_d0_1_2 : S4x32x2048.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_
  bcast_S_S4x64x8192 : S_.BroadcastsInDim S4x64x8192 (![] : Fin 0 → Fin S4x64x8192.rank)
  reducesTo_S4x64x8192_S_d0_1_2 : S4x64x8192.ReducesTo [0, 1, 2] S_
  bcast_S_S64x67 : S_.BroadcastsInDim S64x67 (![] : Fin 0 → Fin S64x67.rank)
  reducesTo_S64x67_S_d0_1 : S64x67.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128x64 .f32) (main_arg8 : FVec F S128 .f32) (main_arg9 : FVec F S128 .f32) (main_v30 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v30 main_v34
  let main_v36 : FVec F S128x64 .f32 := Host.absf main_arg7
  let main_cst_13 : FVec F S_ .f32 := constant S_ .f32 0x7F800000#32
  let main_v37 : FVec F S128x64 .f32 := broadcastInDim S128x64 ![] bcast_S_S128x64 main_cst_13
  let main_v38 : IVec S128x64 1 := cmpf .olt main_v36 main_v37
  let main_c_14 : IVec S_ 1 := constantI S_ 1 1#1
  let main_v39 : IVec S_ 1 := (fun x v => Host.reduce IntOp.andi x v reducesTo_S128x64_S_d0_1 h_S_) main_v38 main_c_14
  let main_v40 : IVec S_ 1 := andi main_v35 main_v39
  let main_v41 : FVec F S128 .f32 := Host.absf main_arg8
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128 .f32 := Host.absf main_arg9
  let main_cst_17 : FVec F S_ .f32 := constant S_ .f32 0x7F800000#32
  let main_v47 : FVec F S128 .f32 := broadcastInDim S128 ![] bcast_S_S128 main_cst_17
  let main_v48 : IVec S128 1 := cmpf .olt main_v46 main_v47
  let main_c_18 : IVec S_ 1 := constantI S_ 1 1#1
  let main_v49 : IVec S_ 1 := (fun x v => Host.reduce IntOp.andi x v reducesTo_S128_S_d0 h_S_) main_v48 main_c_18
  let main_v50 : IVec S_ 1 := andi main_v45 main_v49
  main_v50

def fn_part1 {F : FTy → Type} [FloatOps F] (main_arg4 : FVec F S64 .f32) (main_arg5 : FVec F S64 .f32) (main_arg6 : FVec F S64 .f32) (main_arg7 : FVec F S128x64 .f32) (main_arg8 : FVec F S128 .f32) (main_arg9 : FVec F S128 .f32) (main_v15 : IVec S_ 1) (main_v16 : FVec F S64x67 .f32) : IVec S_ 1 :=
  let main_cst_5 : FVec F S_ .f32 := constant S_ .f32 0x7F800000#32
  let main_v17 : FVec F S64x67 .f32 := broadcastInDim S64x67 ![] bcast_S_S64x67 main_cst_5
  let main_v18 : IVec S64x67 1 := cmpf .olt main_v16 main_v17
  let main_c_6 : IVec S_ 1 := constantI S_ 1 1#1
  let main_v19 : IVec S_ 1 := (fun x v => Host.reduce IntOp.andi x v reducesTo_S64x67_S_d0_1 h_S_) main_v18 main_c_6
  let main_v20 : IVec S_ 1 := andi main_v15 main_v19
  let main_v21 : FVec F S64 .f32 := Host.absf main_arg4
  let main_cst_7 : FVec F S_ .f32 := constant S_ .f32 0x7F800000#32
  let main_v22 : FVec F S64 .f32 := broadcastInDim S64 ![] bcast_S_S64 main_cst_7
  let main_v23 : IVec S64 1 := cmpf .olt main_v21 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v20 main_v24
  let main_v26 : FVec F S64 .f32 := Host.absf main_arg5
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v25 main_v29
  let main_v31 : FVec F S64 .f32 := Host.absf main_arg6
  let main_cst_11 : FVec F S_ .f32 := constant S_ .f32 0x7F800000#32
  let main_v32 : FVec F S64 .f32 := broadcastInDim S64 ![] bcast_S_S64 main_cst_11
  let main_v33 : IVec S64 1 := cmpf .olt main_v31 main_v32
  fn_part2 (F := F) main_arg7 main_arg8 main_arg9 main_v30 main_v33

def fn {F : FTy → Type} [FloatOps F] (main_arg0 : FVec F S4x8192x3 .f32) (main_arg1 : FVec F S4x64x8192 .f32) (main_arg2 : IVec S4x32x2048 32) (main_arg3 : FVec F S64x67 .f32) (main_arg4 : FVec F S64 .f32) (main_arg5 : FVec F S64 .f32) (main_arg6 : FVec F S64 .f32) (main_arg7 : FVec F S128x64 .f32) (main_arg8 : FVec F S128 .f32) (main_arg9 : FVec F S128 .f32) (main_arg10 : FVec F S128 .f32) : IVec S_ 1 :=
  let main_c : IVec S_ 32 := constantI S_ 32 0#32
  let main_v0 : IVec S4x32x2048 32 := broadcastInDim S4x32x2048 ![] bcast_S_S4x32x2048 main_c
  let main_v1 : IVec S4x32x2048 1 := cmpi .sge main_arg2 main_v0
  let main_c_0 : IVec S_ 32 := constantI S_ 32 32768#32
  let main_v2 : IVec S4x32x2048 32 := broadcastInDim S4x32x2048 ![] bcast_S_S4x32x2048 main_c_0
  let main_v3 : IVec S4x32x2048 1 := cmpi .slt main_arg2 main_v2
  let main_v4 : IVec S4x32x2048 1 := andi main_v1 main_v3
  let main_c_1 : IVec S_ 1 := constantI S_ 1 1#1
  let main_v5 : IVec S_ 1 := (fun x v => Host.reduce IntOp.andi x v reducesTo_S4x32x2048_S_d0_1_2 h_S_) main_v4 main_c_1
  let main_v6 : FVec F S4x8192x3 .f32 := Host.absf main_arg0
  let main_cst : FVec F S_ .f32 := constant S_ .f32 0x7F800000#32
  let main_v7 : FVec F S4x8192x3 .f32 := broadcastInDim S4x8192x3 ![] bcast_S_S4x8192x3 main_cst
  let main_v8 : IVec S4x8192x3 1 := cmpf .olt main_v6 main_v7
  let main_c_2 : IVec S_ 1 := constantI S_ 1 1#1
  let main_v9 : IVec S_ 1 := (fun x v => Host.reduce IntOp.andi x v reducesTo_S4x8192x3_S_d0_1_2 h_S_) main_v8 main_c_2
  let main_v10 : IVec S_ 1 := andi main_v5 main_v9
  let main_v11 : FVec F S4x64x8192 .f32 := Host.absf main_arg1
  let main_cst_3 : FVec F S_ .f32 := constant S_ .f32 0x7F800000#32
  let main_v12 : FVec F S4x64x8192 .f32 := broadcastInDim S4x64x8192 ![] bcast_S_S4x64x8192 main_cst_3
  let main_v13 : IVec S4x64x8192 1 := cmpf .olt main_v11 main_v12
  let main_c_4 : IVec S_ 1 := constantI S_ 1 1#1
  let main_v14 : IVec S_ 1 := (fun x v => Host.reduce IntOp.andi x v reducesTo_S4x64x8192_S_d0_1_2 h_S_) main_v13 main_c_4
  let main_v15 : IVec S_ 1 := andi main_v10 main_v14
  let main_v16 : FVec F S64x67 .f32 := Host.absf main_arg3
  fn_part1 (F := F) main_arg4 main_arg5 main_arg6 main_arg7 main_arg8 main_arg9 main_v15 main_v16
-- ==== Kernel.lean ====
abbrev S4x8192x3 : Shape := ⟨3, ![4, 8192, 3]⟩
abbrev S4x64x8192 : Shape := ⟨3, ![4, 64, 8192]⟩
abbrev S4x32x2048 : Shape := ⟨3, ![4, 32, 2048]⟩
abbrev S64x67 : Shape := ⟨2, ![64, 67]⟩
abbrev S64 : Shape := ⟨1, ![64]⟩
abbrev S128x64 : Shape := ⟨2, ![128, 64]⟩
abbrev S128 : Shape := ⟨1, ![128]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S4x2048x3 : Shape := ⟨3, ![4, 2048, 3]⟩
abbrev S4x2048x32 : Shape := ⟨3, ![4, 2048, 32]⟩
abbrev S4x8192x64 : Shape := ⟨3, ![4, 8192, 64]⟩
abbrev S4x8192x61 : Shape := ⟨3, ![4, 8192, 61]⟩
abbrev S4x8192x128 : Shape := ⟨3, ![4, 8192, 128]⟩
abbrev S32768x128 : Shape := ⟨2, ![32768, 128]⟩
abbrev S262144 : Shape := ⟨1, ![262144]⟩
abbrev S262144x128 : Shape := ⟨2, ![262144, 128]⟩
abbrev S128x128 : Shape := ⟨2, ![128, 128]⟩
abbrev S64x64 : Shape := ⟨2, ![64, 64]⟩
abbrev S64x3 : Shape := ⟨2, ![64, 3]⟩
abbrev S3x64 : Shape := ⟨2, ![3, 64]⟩
abbrev S61x64 : Shape := ⟨2, ![61, 64]⟩
abbrev S64x128 : Shape := ⟨2, ![64, 128]⟩
abbrev S1x64 : Shape := ⟨2, ![1, 64]⟩
abbrev S1x128 : Shape := ⟨2, ![1, 128]⟩
abbrev S8192x3 : Shape := ⟨2, ![8192, 3]⟩
abbrev S8192x32x3 : Shape := ⟨3, ![8192, 32, 3]⟩
abbrev S262144x3 : Shape := ⟨2, ![262144, 3]⟩
abbrev S2x64 : Shape := ⟨2, ![2, 64]⟩
abbrev S2048x128 : Shape := ⟨2, ![2048, 128]⟩
abbrev S2048x3 : Shape := ⟨2, ![2048, 3]⟩
abbrev S2048x64 : Shape := ⟨2, ![2048, 64]⟩
abbrev S2x128 : Shape := ⟨2, ![2, 128]⟩
abbrev S8192x128 : Shape := ⟨2, ![8192, 128]⟩
abbrev S64x32x128 : Shape := ⟨3, ![64, 32, 128]⟩
abbrev S1024x128 : Shape := ⟨2, ![1024, 128]⟩
abbrev S4x2048x128 : Shape := ⟨3, ![4, 2048, 128]⟩
abbrev S4x128x2048 : Shape := ⟨3, ![4, 128, 2048]⟩

abbrev nBuf : Table → Nat
  | .hbm => 78
  | .local .tc .vmem => 34
  | .local .scVector .vmem => 2
  | _ => 0

abbrev bufTy : (tb : Table) → Fin (nBuf tb) → BufTy
  | .hbm, ⟨0, _⟩ => ⟨S4x8192x3, .f32⟩
  | .hbm, ⟨1, _⟩ => ⟨S4x64x8192, .f32⟩
  | .hbm, ⟨2, _⟩ => ⟨S4x32x2048, .i32⟩
  | .hbm, ⟨3, _⟩ => ⟨S64x67, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128x64, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2047, .f32⟩
  | .hbm, ⟨19, _⟩ => ⟨S_, .f32⟩
  | .hbm, ⟨20, _⟩ => ⟨S2047, .f32⟩
  | .hbm, ⟨21, _⟩ => ⟨S2047, .f32⟩
  | .hbm, ⟨22, _⟩ => ⟨S1, .f32⟩
  | .hbm, ⟨23, _⟩ => ⟨S_, .f32⟩
  | .hbm, ⟨24, _⟩ => ⟨S2047, .f32⟩
  | .hbm, ⟨25, _⟩ => ⟨S2047, .f32⟩
  | .hbm, ⟨26, _⟩ => ⟨S2047, .f32⟩
  | .hbm, ⟨27, _⟩ => ⟨S2047, .f32⟩
  | .hbm, ⟨28, _⟩ => ⟨S1, .f32⟩
  | .hbm, ⟨29, _⟩ => ⟨S2047, .f32⟩
  | .hbm, ⟨30, _⟩ => ⟨S2047, .f32⟩
  | .hbm, ⟨31, _⟩ => ⟨S2047, .f32⟩
  | .hbm, ⟨32, _⟩ => ⟨S1, .f32⟩
  | .hbm, ⟨33, _⟩ => ⟨S2048, .f32⟩
  | .hbm, ⟨34, _⟩ => ⟨S2048, .i32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S4x2048x3, .f32⟩
  | .hbm, ⟨44, _⟩ => ⟨S4x2048x32, .i32⟩
  | .hbm, ⟨45, _⟩ => ⟨S4x8192x64, .f32⟩
  | .hbm, ⟨46, _⟩ => ⟨S_, .f32⟩
  | .hbm, ⟨47, _⟩ => ⟨S4x8192x61, .f32⟩
  | .hbm, ⟨48, _⟩ => ⟨S4x8192x128, .f32⟩
  | .hbm, ⟨49, _⟩ => ⟨S32768x128, .f32⟩
  | .hbm, ⟨50, _⟩ => ⟨S262144, .i32⟩
  | .hbm, ⟨51, _⟩ => ⟨S262144x128, .f32⟩
  | .hbm, ⟨52, _⟩ => ⟨S64x64, .f32⟩
  | .hbm, ⟨53, _⟩ => ⟨S64x64, .f32⟩
  | .hbm, ⟨54, _⟩ => ⟨S64x3, .f32⟩
  | .hbm, ⟨55, _⟩ => ⟨S3x64, .f32⟩
  | .hbm, ⟨56, _⟩ => ⟨S_, .f32⟩
  | .hbm, ⟨57, _⟩ => ⟨S61x64, .f32⟩
  | .hbm, ⟨58, _⟩ => ⟨S128x64, .f32⟩
  | .hbm, ⟨59, _⟩ => ⟨S64x3, .f32⟩
  | .hbm, ⟨60, _⟩ => ⟨S3x64, .f32⟩
  | .hbm, ⟨61, _⟩ => ⟨S64x128, .f32⟩
  | .hbm, ⟨62, _⟩ => ⟨S1x64, .f32⟩
  | .hbm, ⟨63, _⟩ => ⟨S1x64, .f32⟩
  | .hbm, ⟨64, _⟩ => ⟨S1x64, .f32⟩
  | .hbm, ⟨65, _⟩ => ⟨S1x128, .f32⟩
  | .hbm, ⟨66, _⟩ => ⟨S1x128, .f32⟩
  | .hbm, ⟨67, _⟩ => ⟨S1x128, .f32⟩
  | .hbm, ⟨68, _⟩ => ⟨S8192x3, .f32⟩
  | .hbm, ⟨69, _⟩ => ⟨S8192x32x3, .f32⟩
  | .hbm, ⟨70, _⟩ => ⟨S262144x3, .f32⟩
  | .hbm, ⟨71, _⟩ => ⟨S2x64, .f32⟩
  | .hbm, ⟨72, _⟩ => ⟨S2x128, .f32⟩
  | .hbm, ⟨73, _⟩ => ⟨S8192x128, .f32⟩
  | .hbm, ⟨74, _⟩ => ⟨S8192x128, .f32⟩
  | .hbm, ⟨75, _⟩ => ⟨S8192x128, .f32⟩
  | .hbm, ⟨76, _⟩ => ⟨S4x2048x128, .f32⟩
  | .hbm, ⟨77, _⟩ => ⟨S4x128x2048, .f32⟩
  | .local .tc .vmem, ⟨0, _⟩ => ⟨S2048x128, .f32⟩
  | .local .tc .vmem, ⟨1, _⟩ => ⟨S2048x128, .f32⟩
  | .local .tc .vmem, ⟨2, _⟩ => ⟨S2048x3, .f32⟩
  | .local .tc .vmem, ⟨3, _⟩ => ⟨S2048x3, .f32⟩
  | .local .tc .vmem, ⟨4, _⟩ => ⟨S128x64, .f32⟩
  | .local .tc .vmem, ⟨5, _⟩ => ⟨S3x64, .f32⟩
  | .local .tc .vmem, ⟨6, _⟩ => ⟨S1x64, .f32⟩
  | .local .tc .vmem, ⟨7, _⟩ => ⟨S2x64, .f32⟩
  | .local .tc .vmem, ⟨8, _⟩ => ⟨S2048x128, .f32⟩
  | .local .tc .vmem, ⟨9, _⟩ => ⟨S2048x128, .f32⟩
  | .local .tc .vmem, ⟨10, _⟩ => ⟨S2048x3, .f32⟩
  | .local .tc .vmem, ⟨11, _⟩ => ⟨S2048x3, .f32⟩
  | .local .tc .vmem, ⟨12, _⟩ => ⟨S128x64, .f32⟩
  | .local .tc .vmem, ⟨13, _⟩ => ⟨S3x64, .f32⟩
  | .local .tc .vmem, ⟨14, _⟩ => ⟨S1x64, .f32⟩
  | .local .tc .vmem, ⟨15, _⟩ => ⟨S1x64, .f32⟩
  | .local .tc .vmem, ⟨16, _⟩ => ⟨S1x64, .f32⟩
  | .local .tc .vmem, ⟨17, _⟩ => ⟨S2x64, .f32⟩
  | .local .tc .vmem, ⟨18, _⟩ => ⟨S64x128, .f32⟩
  | .local .tc .vmem, ⟨19, _⟩ => ⟨S1x128, .f32⟩
  | .local .tc .vmem, ⟨20, _⟩ => ⟨S2x128, .f32⟩
  | .local .tc .vmem, ⟨21, _⟩ => ⟨S64x128, .f32⟩
  | .local .tc .vmem, ⟨22, _⟩ => ⟨S64x128, .f32⟩
  | .local .tc .vmem, ⟨23, _⟩ => ⟨S64x128, .f32⟩
  | .local .tc .vmem, ⟨24, _⟩ => ⟨S64x128, .f32⟩
  | .local .tc .vmem, ⟨25, _⟩ => ⟨S1024x128, .f32⟩
  | .local .tc .vmem, ⟨26, _⟩ => ⟨S1024x128, .f32⟩
  | .local .tc .vmem, ⟨27, _⟩ => ⟨S1024x128, .f32⟩
  | .local .tc .vmem, ⟨28, _⟩ => ⟨S1024x128, .f32⟩
  | .local .tc .vmem, ⟨29, _⟩ => ⟨S2x128, .f32⟩
  | .local .tc .vmem, ⟨30, _⟩ => ⟨S1x128, .f32⟩
  | .local .tc .vmem, ⟨31, _⟩ => ⟨S1x128, .f32⟩
  | .local .tc .vmem, ⟨32, _⟩ => ⟨S1024x128, .f32⟩
  | .local .tc .vmem, ⟨33, _⟩ => ⟨S1024x128, .f32⟩
  | .local .scVector .vmem, ⟨0, _⟩ => ⟨S128, .i32⟩
  | .local .scVector .vmem, ⟨1, _⟩ => ⟨S128x128, .f32⟩
  | _, _ => ⟨S4x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 37 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTables nBuf rfl bufTy 4 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v0 : Ref sig .tc := ⟨.hbm, 33, rfl⟩
abbrev main_v1 : Ref sig .tc := ⟨.hbm, 34, rfl⟩
abbrev main_c : Ref sig .tc := ⟨.hbm, 35, rfl⟩
abbrev main_v2 : Ref sig .tc := ⟨.hbm, 36, rfl⟩
abbrev main_v3 : Ref sig .tc := ⟨.hbm, 37, rfl⟩
abbrev main_c_1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_2 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_3 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35_0 : Ref sig .tc := ⟨.hbm, 72, rfl⟩
abbrev main_v35_1 : Ref sig .tc := ⟨.hbm, 73, rfl⟩
abbrev main_v35_2 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v13_scv : Ref sig .scVector := ⟨.hbm, 49, rfl⟩
abbrev main_v14_scv : Ref sig .scVector := ⟨.hbm, 50, rfl⟩
abbrev main_v15_scv : Ref sig .scVector := ⟨.hbm, 51, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg10_0 : Ref sig .tc := ⟨.vmem, 20, rfl⟩
abbrev cc2_stg11_0 : Ref sig .tc := ⟨.vmem, 21, rfl⟩
abbrev cc2_stg11_1 : Ref sig .tc := ⟨.vmem, 22, rfl⟩
abbrev cc2_stg12_0 : Ref sig .tc := ⟨.vmem, 23, rfl⟩
abbrev cc2_stg12_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem11_1 : DmaSem sig := 25
abbrev cc2_sem12_0 : DmaSem sig := 26
abbrev cc2_sem12_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c64_i32 : BitVec 32 := 64#32
  let v3 : BitVec 32 := Scalar.addi c0_i32_0 c64_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  ![v6.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k0_t1
  let c128_i32 : BitVec 32 := 128#32
  let v5 : BitVec 32 := Scalar.muli arg8 c128_i32
  let v6 : BitVec 32 := Scalar.addi v2 v5
  let c0_i32_7_r1 : BitVec 32 := 0#32
  ![v6.toNat, 0]
abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S3x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S2x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S64x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S64x128 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S2x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x8192x3 : Shape := ⟨3, ![4, 8192, 3]⟩
abbrev S4x64x8192 : Shape := ⟨3, ![4, 64, 8192]⟩
abbrev S4x32x2048 : Shape := ⟨3, ![4, 32, 2048]⟩
abbrev S64x67 : Shape := ⟨2, ![64, 67]⟩
abbrev S64 : Shape := ⟨1, ![64]⟩
abbrev S128x64 : Shape := ⟨2, ![128, 64]⟩
abbrev S128 : Shape := ⟨1, ![128]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S4x2048x3 : Shape := ⟨3, ![4, 2048, 3]⟩
abbrev S4x2048x32 : Shape := ⟨3, ![4, 2048, 32]⟩
abbrev S32768x3 : Shape := ⟨2, ![32768, 3]⟩
abbrev S4x2048x32x1 : Shape := ⟨4, ![4, 2048, 32, 1]⟩
abbrev S4x2048x32x3 : Shape := ⟨4, ![4, 2048, 32, 3]⟩
abbrev S4x2048x1x3 : Shape := ⟨4, ![4, 2048, 1, 3]⟩
abbrev S4x2048x3x32 : Shape := ⟨4, ![4, 2048, 3, 32]⟩
abbrev S4x8192x64 : Shape := ⟨3, ![4, 8192, 64]⟩
abbrev S32768x64 : Shape := ⟨2, ![32768, 64]⟩
abbrev S4x2048x32x64 : Shape := ⟨4, ![4, 2048, 32, 64]⟩
abbrev S4x2048x64x32 : Shape := ⟨4, ![4, 2048, 64, 32]⟩
abbrev S4x2048x67x32 : Shape := ⟨4, ![4, 2048, 67, 32]⟩
abbrev S8192x67x32 : Shape := ⟨3, ![8192, 67, 32]⟩
abbrev S8192x32x64 : Shape := ⟨3, ![8192, 32, 64]⟩
abbrev S8192x64x32 : Shape := ⟨3, ![8192, 64, 32]⟩
abbrev S1x64x1 : Shape := ⟨3, ![1, 64, 1]⟩
abbrev S8192x32x128 : Shape := ⟨3, ![8192, 32, 128]⟩
abbrev S8192x128x32 : Shape := ⟨3, ![8192, 128, 32]⟩
abbrev S1x128x1 : Shape := ⟨3, ![1, 128, 1]⟩
abbrev S8192x128 : Shape := ⟨2, ![8192, 128]⟩
abbrev S4x2048x128 : Shape := ⟨3, ![4, 2048, 128]⟩
abbrev S4x128x2048 : Shape := ⟨3, ![4, 128, 2048]⟩

abbrev nBuf : Space → Nat
  | .hbm => 181
  | .vmem => 0
  | .smem => 0
  | _ => 0

abbrev hbmTy0_0 (i : Nat) : BufTy := match i % 128 with
  | 0 => ⟨S4x8192x3, .f32⟩
  | 1 => ⟨S4x64x8192, .f32⟩
  | 2 => ⟨S4x32x2048, .i32⟩
  | 3 => ⟨S64x67, .f32⟩
  | 4 => ⟨S64, .f32⟩
  | 5 => ⟨S64, .f32⟩
  | 6 => ⟨S64, .f32⟩
  | 7 => ⟨S128x64, .f32⟩
  | 8 => ⟨S128, .f32⟩
  | 9 => ⟨S128, .f32⟩
  | 10 => ⟨S128, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S2047, .f32⟩
  | 19 => ⟨S_, .f32⟩
  | 20 => ⟨S2047, .f32⟩
  | 21 => ⟨S2047, .f32⟩
  | 22 => ⟨S1, .f32⟩
  | 23 => ⟨S_, .f32⟩
  | 24 => ⟨S2047, .f32⟩
  | 25 => ⟨S2047, .f32⟩
  | 26 => ⟨S2047, .f32⟩
  | 27 => ⟨S2047, .f32⟩
  | 28 => ⟨S1, .f32⟩
  | 29 => ⟨S2047, .f32⟩
  | 30 => ⟨S2047, .f32⟩
  | 31 => ⟨S2047, .f32⟩
  | 32 => ⟨S1, .f32⟩
  | 33 => ⟨S2048, .f32⟩
  | 34 => ⟨S2048, .i32⟩
  | 35 => ⟨S_, .i32⟩
  | 36 => ⟨S2048, .i32⟩
  | 37 => ⟨S2048, .i1⟩
  | 38 => ⟨S_, .i32⟩
  | 39 => ⟨S2048, .i32⟩
  | 40 => ⟨S2048, .i32⟩
  | 41 => ⟨S2048, .i32⟩
  | 42 => ⟨S2048x1, .i32⟩
  | 43 => ⟨S4x2048x3, .f32⟩
  | 44 => ⟨S4x2048x32, .i32⟩
  | 45 => ⟨S32768x3, .f32⟩
  | 46 => ⟨S_, .i32⟩
  | 47 => ⟨S4x2048x32, .i32⟩
  | 48 => ⟨S4x2048x32, .i1⟩
  | 49 => ⟨S_, .i32⟩
  | 50 => ⟨S4x2048x32, .i32⟩
  | 51 => ⟨S4x2048x32, .i32⟩
  | 52 => ⟨S4x2048x32, .i32⟩
  | 53 => ⟨S4x2048x32x1, .i32⟩
  | 54 => ⟨S4x2048x32x3, .f32⟩
  | 55 => ⟨S4x2048x1x3, .f32⟩
  | 56 => ⟨S4x2048x32x3, .f32⟩
  | 57 => ⟨S4x2048x32x3, .f32⟩
  | 58 => ⟨S4x2048x3x32, .f32⟩
  | 59 => ⟨S4x8192x64, .f32⟩
  | 60 => ⟨S32768x64, .f32⟩
  | 61 => ⟨S_, .i32⟩
  | 62 => ⟨S4x2048x32, .i32⟩
  | 63 => ⟨S4x2048x32, .i1⟩
  | 64 => ⟨S_, .i32⟩
  | 65 => ⟨S4x2048x32, .i32⟩
  | 66 => ⟨S4x2048x32, .i32⟩
  | 67 => ⟨S4x2048x32, .i32⟩
  | 68 => ⟨S4x2048x32x1, .i32⟩
  | 69 => ⟨S4x2048x32x64, .f32⟩
  | 70 => ⟨S4x2048x64x32, .f32⟩
  | 71 => ⟨S4x2048x67x32, .f32⟩
  | 72 => ⟨S8192x67x32, .f32⟩
  | 73 => ⟨S8192x32x64, .f32⟩
  | 74 => ⟨S8192x64x32, .f32⟩
  | 75 => ⟨S1x64x1, .f32⟩
  | 76 => ⟨S8192x64x32, .f32⟩
  | 77 => ⟨S8192x64x32, .f32⟩
  | 78 => ⟨S_, .f32⟩
  | 79 => ⟨S64, .f32⟩
  | 80 => ⟨S1x64x1, .f32⟩
  | 81 => ⟨S_, .f32⟩
  | 82 => ⟨S1x64x1, .f32⟩
  | 83 => ⟨S1x64x1, .f32⟩
  | 84 => ⟨S_, .i32⟩
  | 85 => ⟨S_, .f32⟩
  | 86 => ⟨S64, .f32⟩
  | 87 => ⟨S1x64x1, .f32⟩
  | 88 => ⟨S_, .f32⟩
  | 89 => ⟨S1x64x1, .f32⟩
  | 90 => ⟨S1x64x1, .f32⟩
  | 91 => ⟨S8192x64x32, .f32⟩
  | 92 => ⟨S8192x64x32, .f32⟩
  | 93 => ⟨S8192x64x32, .f32⟩
  | 94 => ⟨S_, .f32⟩
  | 95 => ⟨S_, .f32⟩
  | 96 => ⟨S_, .f32⟩
  | 97 => ⟨S_, .f32⟩
  | 98 => ⟨S64, .f32⟩
  | 99 => ⟨S1x64x1, .f32⟩
  | 100 => ⟨S1x64x1, .f32⟩
  | 101 => ⟨S1x64x1, .f32⟩
  | 102 => ⟨S_, .f32⟩
  | 103 => ⟨S_, .i1⟩
  | 104 => ⟨S_, .f32⟩
  | 105 => ⟨S_, .f32⟩
  | 106 => ⟨S1x64x1, .f32⟩
  | 107 => ⟨S1x64x1, .f32⟩
  | 108 => ⟨S8192x64x32, .f32⟩
  | 109 => ⟨S8192x64x32, .f32⟩
  | 110 => ⟨S_, .f32⟩
  | 111 => ⟨S1x64x1, .f32⟩
  | 112 => ⟨S1x64x1, .f32⟩
  | 113 => ⟨S1x64x1, .f32⟩
  | 114 => ⟨S8192x64x32, .f32⟩
  | 115 => ⟨S8192x64x32, .f32⟩
  | 116 => ⟨S1x64x1, .f32⟩
  | 117 => ⟨S8192x64x32, .f32⟩
  | 118 => ⟨S8192x64x32, .f32⟩
  | 119 => ⟨S1x64x1, .f32⟩
  | 120 => ⟨S8192x64x32, .f32⟩
  | 121 => ⟨S8192x64x32, .f32⟩
  | 122 => ⟨S_, .f32⟩
  | 123 => ⟨S8192x64x32, .f32⟩
  | 124 => ⟨S8192x64x32, .f32⟩
  | 125 => ⟨S8192x32x128, .f32⟩
  | 126 => ⟨S8192x128x32, .f32⟩
  | 127 => ⟨S1x128x1, .f32⟩
  | _ => ⟨S4x8192x3, .f32⟩

abbrev hbmTy0_1 (i : Nat) : BufTy := match i % 128 with
  | 0 => ⟨S8192x128x32, .f32⟩
  | 1 => ⟨S8192x128x32, .f32⟩
  | 2 => ⟨S_, .f32⟩
  | 3 => ⟨S128, .f32⟩
  | 4 => ⟨S1x128x1, .f32⟩
  | 5 => ⟨S_, .f32⟩
  | 6 => ⟨S1x128x1, .f32⟩
  | 7 => ⟨S1x128x1, .f32⟩
  | 8 => ⟨S_, .i32⟩
  | 9 => ⟨S_, .f32⟩
  | 10 => ⟨S128, .f32⟩
  | 11 => ⟨S1x128x1, .f32⟩
  | 12 => ⟨S_, .f32⟩
  | 13 => ⟨S1x128x1, .f32⟩
  | 14 => ⟨S1x128x1, .f32⟩
  | 15 => ⟨S8192x128x32, .f32⟩
  | 16 => ⟨S8192x128x32, .f32⟩
  | 17 => ⟨S8192x128x32, .f32⟩
  | 18 => ⟨S_, .f32⟩
  | 19 => ⟨S_, .f32⟩
  | 20 => ⟨S_, .f32⟩
  | 21 => ⟨S_, .f32⟩
  | 22 => ⟨S128, .f32⟩
  | 23 => ⟨S1x128x1, .f32⟩
  | 24 => ⟨S1x128x1, .f32⟩
  | 25 => ⟨S1x128x1, .f32⟩
  | 26 => ⟨S_, .f32⟩
  | 27 => ⟨S_, .i1⟩
  | 28 => ⟨S_, .f32⟩
  | 29 => ⟨S_, .f32⟩
  | 30 => ⟨S1x128x1, .f32⟩
  | 31 => ⟨S1x128x1, .f32⟩
  | 32 => ⟨S8192x128x32, .f32⟩
  | 33 => ⟨S8192x128x32, .f32⟩
  | 34 => ⟨S_, .f32⟩
  | 35 => ⟨S1x128x1, .f32⟩
  | 36 => ⟨S1x128x1, .f32⟩
  | 37 => ⟨S1x128x1, .f32⟩
  | 38 => ⟨S8192x128x32, .f32⟩
  | 39 => ⟨S8192x128x32, .f32⟩
  | 40 => ⟨S1x128x1, .f32⟩
  | 41 => ⟨S8192x128x32, .f32⟩
  | 42 => ⟨S8192x128x32, .f32⟩
  | 43 => ⟨S1x128x1, .f32⟩
  | 44 => ⟨S8192x128x32, .f32⟩
  | 45 => ⟨S8192x128x32, .f32⟩
  | 46 => ⟨S_, .f32⟩
  | 47 => ⟨S8192x128x32, .f32⟩
  | 48 => ⟨S8192x128x32, .f32⟩
  | 49 => ⟨S_, .f32⟩
  | 50 => ⟨S8192x128, .f32⟩
  | 51 => ⟨S4x2048x128, .f32⟩
  | 52 => ⟨S4x128x2048, .f32⟩
  | _ => ⟨S4x8192x3, .f32⟩

abbrev hbmTy (i : Nat) : BufTy := match i / 128 with
  | 0 => hbmTy0_0 i
  | 1 => hbmTy0_1 i
  | _ => ⟨S4x8192x3, .f32⟩

abbrev bufTy : (tb : Table) → Fin (tcTables nBuf tb) → BufTy
  | .hbm, ⟨i, _⟩ => hbmTy i
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_cst : Ref sig .tc := ⟨.hbm, 16, rfl⟩
abbrev main_call0_v3 : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_v0 : Ref sig .tc := ⟨.hbm, 33, rfl⟩
abbrev main_v1 : Ref sig .tc := ⟨.hbm, 34, rfl⟩
abbrev main_c : Ref sig .tc := ⟨.hbm, 35, rfl⟩
abbrev main_v2 : Ref sig .tc := ⟨.hbm, 36, rfl⟩
abbrev main_v3 : Ref sig .tc := ⟨.hbm, 37, rfl⟩
abbrev main_c_1 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_c_2 : Ref sig .tc := ⟨.hbm, 46, rfl⟩
abbrev main_v11 : Ref sig .tc := ⟨.hbm, 47, rfl⟩
abbrev main_v12 : Ref sig .tc := ⟨.hbm, 48, rfl⟩
abbrev main_c_3 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_4 : Ref sig .tc := ⟨.hbm, 61, rfl⟩
abbrev main_v24 : Ref sig .tc := ⟨.hbm, 62, rfl⟩
abbrev main_v25 : Ref sig .tc := ⟨.hbm, 63, rfl⟩
abbrev main_c_5 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_cst_6 : Ref sig .tc := ⟨.hbm, 78, rfl⟩
abbrev main_v39 : Ref sig .tc := ⟨.hbm, 79, rfl⟩
abbrev main_v40 : Ref sig .tc := ⟨.hbm, 80, rfl⟩
abbrev main_cst_7 : Ref sig .tc := ⟨.hbm, 81, rfl⟩
abbrev main_v41 : Ref sig .tc := ⟨.hbm, 82, rfl⟩
abbrev main_v42 : Ref sig .tc := ⟨.hbm, 83, rfl⟩
abbrev main_c_8 : Ref sig .tc := ⟨.hbm, 84, rfl⟩
abbrev main_call1_cst : Ref sig .tc := ⟨.hbm, 85, rfl⟩
abbrev main_call1_v0 : Ref sig .tc := ⟨.hbm, 86, rfl⟩
abbrev main_call1_v1 : Ref sig .tc := ⟨.hbm, 87, rfl⟩
abbrev main_call1_cst_0 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_v7 : Ref sig .tc := ⟨.hbm, 94, rfl⟩
abbrev main_call1_cst_1 : Ref sig .tc := ⟨.hbm, 95, rfl⟩
abbrev main_call1_v8 : Ref sig .tc := ⟨.hbm, 96, rfl⟩
abbrev main_call1_cst_2 : Ref sig .tc := ⟨.hbm, 97, rfl⟩
abbrev main_call1_v9 : Ref sig .tc := ⟨.hbm, 98, rfl⟩
abbrev main_call1_v10 : Ref sig .tc := ⟨.hbm, 99, rfl⟩
abbrev main_call1_v11 : Ref sig .tc := ⟨.hbm, 100, rfl⟩
abbrev main_call1_v12 : Ref sig .tc := ⟨.hbm, 101, rfl⟩
abbrev main_call1_cst_3 : Ref sig .tc := ⟨.hbm, 102, rfl⟩
abbrev main_call1_v13 : Ref sig .tc := ⟨.hbm, 103, rfl⟩
abbrev main_call1_cst_4 : Ref sig .tc := ⟨.hbm, 104, rfl⟩
abbrev main_call1_call0_v0 : Ref sig .tc := ⟨.hbm, 105, rfl⟩
abbrev main_call1_call0_v1 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_cst_9 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_call2_cst : Ref sig .tc := ⟨.hbm, 122, rfl⟩
abbrev main_call2_v0 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_cst_10 : Ref sig .tc := ⟨.hbm, 130, rfl⟩
abbrev main_v63 : Ref sig .tc := ⟨.hbm, 131, rfl⟩
abbrev main_v64 : Ref sig .tc := ⟨.hbm, 132, rfl⟩
abbrev main_cst_11 : Ref sig .tc := ⟨.hbm, 133, rfl⟩
abbrev main_v65 : Ref sig .tc := ⟨.hbm, 134, rfl⟩
abbrev main_v66 : Ref sig .tc := ⟨.hbm, 135, rfl⟩
abbrev main_c_12 : Ref sig .tc := ⟨.hbm, 136, rfl⟩
abbrev main_call3_cst : Ref sig .tc := ⟨.hbm, 137, rfl⟩
abbrev main_call3_v0 : Ref sig .tc := ⟨.hbm, 138, rfl⟩
abbrev main_call3_v1 : Ref sig .tc := ⟨.hbm, 139, rfl⟩
abbrev main_call3_cst_0 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_v6 : Ref sig .tc := ⟨.hbm, 145, rfl⟩
abbrev main_call3_v7 : Ref sig .tc := ⟨.hbm, 146, rfl⟩
abbrev main_call3_cst_1 : Ref sig .tc := ⟨.hbm, 147, rfl⟩
abbrev main_call3_v8 : Ref sig .tc := ⟨.hbm, 148, rfl⟩
abbrev main_call3_cst_2 : Ref sig .tc := ⟨.hbm, 149, rfl⟩
abbrev main_call3_v9 : Ref sig .tc := ⟨.hbm, 150, rfl⟩
abbrev main_call3_v10 : Ref sig .tc := ⟨.hbm, 151, rfl⟩
abbrev main_call3_v11 : Ref sig .tc := ⟨.hbm, 152, rfl⟩
abbrev main_call3_v12 : Ref sig .tc := ⟨.hbm, 153, rfl⟩
abbrev main_call3_cst_3 : Ref sig .tc := ⟨.hbm, 154, rfl⟩
abbrev main_call3_v13 : Ref sig .tc := ⟨.hbm, 155, rfl⟩
abbrev main_call3_cst_4 : Ref sig .tc := ⟨.hbm, 156, rfl⟩
abbrev main_call3_call0_v0 : Ref sig .tc := ⟨.hbm, 157, rfl⟩
abbrev main_call3_call0_v1 : Ref sig .tc := ⟨.hbm, 158, rfl⟩
abbrev main_v67 : Ref sig .tc := ⟨.hbm, 159, rfl⟩
abbrev main_v68 : Ref sig .tc := ⟨.hbm, 160, rfl⟩
abbrev main_v69 : Ref sig .tc := ⟨.hbm, 161, rfl⟩
abbrev main_cst_13 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_v74 : Ref sig .tc := ⟨.hbm, 167, rfl⟩
abbrev main_v75 : Ref sig .tc := ⟨.hbm, 168, rfl⟩
abbrev main_v76 : Ref sig .tc := ⟨.hbm, 169, rfl⟩
abbrev main_v77 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_call4_cst : Ref sig .tc := ⟨.hbm, 174, rfl⟩
abbrev main_call4_v0 : Ref sig .tc := ⟨.hbm, 175, rfl⟩
abbrev main_v81 : Ref sig .tc := ⟨.hbm, 176, rfl⟩
abbrev main_cst_14 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩

abbrev nD : Nat := 1
abbrev τ : Topo := Topo.v7x

variable {F : FTy → Type} [FloatOps F]
-- ==== Proof.Setup.lean ====
/-
  The launch as the proofs see it: the program's call record, the ghost state, the arrays the call takes, and
  what its handshakes carry. Task `w` of thirty-two is the tile `(c, i)` with `w = 2 i + c`; it reads the whole table and
  the whole list of row numbers (a thirty-second share of each) and owns rows `8192 w ‥ 8192 w + 8191` of the output.
  Everything here is parametric in the arrays' contents when the call starts: the table `tab`, the row numbers `ix` and
  the output's old contents `o₀`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipelines' component. -/
abbrev EP : Emb UP (MT nD τ sig (HIx 1) (Elt F) ℕ UU ℕ) := (Emb.inl : Emb UP (UP × Counters)).trans embR

/-! ## The arrays -/

abbrev tLoc (d : Dev nD) : Loc nD τ sig := (SparseCore.T d).loc main_v13
abbrev iLoc (d : Dev nD) : Loc nD τ sig := (SparseCore.T d).loc main_v14
abbrev oLoc (d : Dev nD) : Loc nD τ sig := (SparseCore.T d).loc main_v15

/-- The row numbers in range: each names a row of the table. -/
def InRows (ix : S262144.Idx → BitVec 32) : Prop := ∀ j, (ix j).toNat < 32768

/-- What the call leaves: row `r` of the output is the table's row named by entry `r` of the list. -/
def rowsOf (tab : S32768x128.Idx → Elt F .f32) (ix : S262144.Idx → BitVec 32) : S262144x128.Idx → Elt F .f32 :=
  fun x => tab (ix2 ⟨(ix (ix1 (x 0))).toNat % 32768, Nat.mod_lt _ (by decide)⟩ (x 1))

/-! ## The tasks' shares -/

/-- The task of the tile `(c, i)`. -/
def wid (c : Fin 2) (i : Fin 16) : Fin 32 := ⟨2 * i.val + c.val, by omega⟩

/-- Every task is one tile's. -/
def widEquiv : Fin 2 × Fin 16 ≃ Fin 32 where
  toFun p := wid p.1 p.2
  invFun w := (⟨w.val % 2, Nat.mod_lt _ (by decide)⟩, ⟨w.val / 2, by omega⟩)
  left_inv p := by
    obtain ⟨c, i⟩ := p
    refine Prod.ext (Fin.ext ?_) (Fin.ext ?_) <;> simp only [wid] <;> omega
  right_inv w := Fin.ext (by simp only [wid]; omega)

theorem odiv : 32 ∣ S262144x128.size 0 := ⟨8192, rfl⟩
/-- Task `w`'s rows of the output. -/
abbrev oSet (w : Fin 32) : Finset S262144x128.Idx := (Rect.part (s := S262144x128) (a₀ := 0) odiv w).set

/-- Task `w`'s share of what every task reads. -/
abbrev qs (w : Fin 32) : PosShare TreeShare := pieceOf fullShare 32 (by decide) w

variable (tab : (d : Dev nD) → Buf (Elt F) (tLoc d)) (ix : (d : Dev nD) → Buf (Elt F) (iLoc d)) (o₀ : (d : Dev nD) → Buf (Elt F) (oLoc d))

/-- The output after the call. -/
abbrev res (d : Dev nD) : Buf (Elt F) (oLoc d) := rowsOf (F := F) (tab d) (ix d)

/-- Task `w`'s resources, its rows of the output at `f`. -/
abbrev task (d : Dev nD) (w : Fin 32) (f : Buf (Elt F) (oLoc d)) : sProp 𝕄 :=
  iprop((tLoc d ↦{qs w} tab d) ∗ (iLoc d ↦{qs w} ix d) ∗ (oLoc d ↦[oSet w]{fullShare} f))

/-- A SparseCore takes its sixteen tasks' resources and brings them back, the output's rows gathered. -/
def P : (K (F := F)).Pay (nD := nD) (Val := Elt F) (Name := ℕ) (U := UU) where
  st := fun q d c => match q with | 0 => bigSep Finset.univ fun i : Fin 16 => task tab ix d (wid (Fin.cast nCore_zero c) i) (o₀ d)
  dn := fun q d c => match q with | 0 => bigSep Finset.univ fun i : Fin 16 => task tab ix d (wid (Fin.cast nCore_zero c) i) (res tab ix d)
  go := fun q d c i => match q with | 0 => task tab ix d (wid (Fin.cast nCore_zero c) (Fin.cast nSub_zero i)) (o₀ d)
  td := fun q d c i => match q with | 0 => task tab ix d (wid (Fin.cast nCore_zero c) (Fin.cast nSub_zero i)) (res tab ix d)
  x := fun _ _ => iprop(emp)

instance P_storable : (P (F := F) tab ix o₀).IsStorable where
  st q d c := match q with
    | 0 => (inferInstance : BI.Storable (upEmb : UEmb _ 𝕄) (bigSep Finset.univ fun i : Fin 16 => task tab ix d (wid (Fin.cast nCore_zero c) i) (o₀ d)))
  dn q d c := match q with
    | 0 => (inferInstance : BI.Storable (upEmb : UEmb _ 𝕄) (bigSep Finset.univ fun i : Fin 16 => task tab ix d (wid (Fin.cast nCore_zero c) i) (res tab ix d)))
  go q d c i := match q with
    | 0 => (inferInstance : BI.Storable (upEmb : UEmb _ 𝕄) (task tab ix d (wid (Fin.cast nCore_zero c) (Fin.cast nSub_zero i)) (o₀ d)))
  td q d c i := match q with
    | 0 => (inferInstance : BI.Storable (upEmb : UEmb _ 𝕄) (task tab ix d (wid (Fin.cast nCore_zero c) (Fin.cast nSub_zero i)) (res tab ix d)))

/-! ## Splitting the arrays among the tasks -/

theorem oSets_disjoint : ∀ i ∈ (Finset.univ : Finset (Fin 32)), ∀ j ∈ (Finset.univ : Finset (Fin 32)), i ≠ j → Disjoint (oSet i) (oSet j) :=
  fun _ _ _ _ h => Rect.part_disjoint odiv h
theorem oSets_cover : (Finset.univ : Finset (Fin 32)).biUnion oSet = Finset.univ := Rect.biUnion_part odiv

theorem out_tasks (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet oSets_disjoint, oSets_cover]

/-- The three arrays, whole, are the thirty-two tasks' resources. -/
theorem whole_eq_tasks (d : Dev nD) (f : Buf (Elt F) (oLoc d)) :
    (iprop((tLoc d ↦{fullShare} tab d) ∗ (iLoc d ↦{fullShare} ix d) ∗ (oLoc d ↦{fullShare} f)) : sProp 𝕄)
      = bigSep Finset.univ fun w : Fin 32 => task tab ix d w f := by
  rw [bigSep_sep', bigSep_sep', out_tasks, pointsTo_piecesOf Finset.univ (tab d) (by decide : 0 < 32) fullShare,
    pointsTo_piecesOf Finset.univ (ix d) (by decide : 0 < 32) fullShare]

end Cert.Proof.Rows

end
-- ==== Proof.Tile.lean ====
/-
  A tile's task: sixty-four trips, each fetching 128 row numbers, gathering those rows of the table into a scratch and
  writing them out. The loop's invariant carries the value: before trip `k` the task's first `128 k` rows of the output
  hold the table's rows the list names.
-/
module

public import proofs.«01_k».proof.Proof.Setup
public import Idealize.ShloMosaic.Lib.Pointwise.Reshape
public import Idealize.ShloMosaic.Lib.Writes

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev tV : Memref sig .scVector .hbm S32768x128 .f32 := Memref.whole main_v13_scv
abbrev iV : Memref sig .scVector .hbm S262144 .i32 := Memref.whole main_v14_scv
abbrev oV : Memref sig .scVector .hbm S262144x128 .f32 := Memref.whole main_v15_scv
abbrev sV : Memref sig .scVector .vmem S128 .i32 := Memref.whole cc0_scratch0
abbrev rV : Memref sig .scVector .vmem S128x128 .f32 := Memref.whole cc0_scratch1

/-! ## The tile's coordinates -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The task of the tile at `L`. -/
abbrev wL (L : grid0.Coords) : Fin 32 := wid (Fin.cast bound_zero (L 0)) (Fin.cast bound_one (L 1))
theorem wL_val (L : grid0.Coords) : (wL L).val = 2 * (L 1).val + (L 0).val := rfl
theorem trips_eq : k0_t1_loop.trips = 64 := by decide

/-! ## The pieces a trip addresses -/

/-- The row numbers of trip `k`, the rows it writes, and the whole table, as the task addresses them. -/
abbrev iChunk (L : grid0.Coords) (k : Fin k0_t1_loop.trips) : Memref sig .scVector .hbm S128 .i32 :=
  iV.slice (Rect.unit (s := S262144) (k0_off1 L k) S128.size (k0_off1_inb L k)) (fun _ => rfl)
abbrev oChunk (L : grid0.Coords) (k : Fin k0_t1_loop.trips) : Memref sig .scVector .hbm S128x128 .f32 :=
  oV.slice (Rect.unit (s := S262144x128) (k0_off2 L k) S128x128.size (k0_off2_inb L k)) (fun _ => rfl)
abbrev tAll : Memref sig .scVector .hbm S32768x128 .f32 :=
  tV.slice (Rect.unit (s := S32768x128) ![0, 0] S32768x128.size inb_S32768x128_S32768x128_0_0) (fun _ => rfl)

/-- The first row trip `k` handles. -/
def base (L : grid0.Coords) (k : ℕ) : ℕ := 8192 * (wL L).val + 128 * k

theorem iChunk_emb (L : grid0.Coords) (k : Fin k0_t1_loop.trips) (x : S128.Idx) :
    (((iChunk L k).view.emb x : S262144.Idx) 0).val = base L k + (x 0).val := by
  show (k0_off1 L k) 0 + 1 * (x 0).val = _
  rw [k0_off1_eq, base, wL_val]; simp; omega

theorem oChunk_emb0 (L : grid0.Coords) (k : Fin k0_t1_loop.trips) (x : S128x128.Idx) :
    (((oChunk L k).view.emb x : S262144x128.Idx) 0).val = base L k + (x 0).val := by
  show (k0_off2 L k) 0 + 1 * (x 0).val = _
  rw [k0_off2_eq, base, wL_val]; simp; omega

theorem oChunk_emb1 (L : grid0.Coords) (k : Fin k0_t1_loop.trips) (x : S128x128.Idx) :
    (((oChunk L k).view.emb x : S262144x128.Idx) 1).val = (x 1).val := by
  show (k0_off2 L k) 1 + 1 * (x 1).val = _
  rw [k0_off2_eq]; simp

theorem mem_oSet (w : Fin 32) (x : S262144x128.Idx) : x ∈ oSet w ↔ 8192 * w.val ≤ (x 0).val ∧ (x 0).val < 8192 * w.val + 8192 := by
  unfold oSet Rect.part Rect.block
  rw [Rect.mem_set_unit, Fin.forall_fin_two]
  have h1 : (x 1).val < 128 := (x 1).isLt
  have e0 : S262144x128.partIx 0 w.val 0 * S262144x128.partSize 0 32 0 = w.val * 8192 := rfl
  have s0 : S262144x128.partSize 0 32 0 = 8192 := rfl
  have e1 : S262144x128.partIx 0 w.val 1 * S262144x128.partSize 0 32 1 = 0 := rfl
  have s1 : S262144x128.partSize 0 32 1 = 128 := rfl
  rw [e0, e1, s0, s1]
  omega

theorem mem_oChunk (L : grid0.Coords) (k : Fin k0_t1_loop.trips) (x : S262144x128.Idx) :
    x ∈ (oChunk L k).view.set ↔ base L k ≤ (x 0).val ∧ (x 0).val < base L k + 128 := by
  show x ∈ (((View.whole main_v15_scv).slice (Rect.unit (s := S262144x128) (k0_off2 L k) S128x128.size (k0_off2_inb L k))).set : Finset S262144x128.Idx) ↔ _
  rw [View.set_slice_whole, Rect.mem_set_unit]
  refine (Fin.forall_fin_two (p := fun a => k0_off2 L k a ≤ (x a).val ∧ (x a).val < k0_off2 L k a + S128x128.size a)).trans ?_
  rw [k0_off2_eq, base, wL_val]
  have h1 : (x 1).val < 128 := (x 1).isLt
  simp only [Matrix.cons_val_zero, Matrix.cons_val_one, Matrix.cons_val_fin_one]
  show (_ ∧ (x 0).val < _ + 128) ∧ (_ ∧ (x 1).val < _ + 128) ↔ _
  omega

theorem oChunk_subset (L : grid0.Coords) (k : Fin k0_t1_loop.trips) : (oChunk L k).view.set ⊆ oSet (wL L) := by
  intro x hx
  have h := (mem_oChunk L k x).1 hx
  have hk : k.val < 64 := trips_eq ▸ k.isLt
  rw [base] at h
  exact (mem_oSet _ x).2 (by omega)

variable [FloatOps F]
variable (tab : (d : Dev nD) → Buf (Elt F) (tLoc d)) (ix : (d : Dev nD) → Buf (Elt F) (iLoc d)) (o₀ : (d : Dev nD) → Buf (Elt F) (oLoc d))
variable (d : Dev nD) (L : grid0.Coords)

/-- The tile's thread. -/
abbrev thr : Thread nD τ := V d (cV L) (jV L)

/-- The task's first `128 k` rows of the output are gathered. -/
def Done (k : ℕ) (f : Buf (Elt F) (oLoc d)) : Prop :=
  ∀ x : S262144x128.Idx, x ∈ oSet (wL L) → (x 0).val < base L k → f x = res tab ix d x

/-- Before trip `k`: the shares of the table and of the list, the output's rows with `128 k` of them gathered, the two
    scratches, the three semaphores at zero, and the thread's waits. -/
def inv (O : CellTallies nD τ sig (HIx 1)) (W : Waits sig (HIx 1)) (k : ℕ) (_ : BitVec 32) : sProp 𝕄 :=
  iprop(Transfers.MayWaits (thr d L) (none : HIx 1) O
    ∗ (tV.view.loc (thr d L) ↦{qs (wL L)} tab d)
    ∗ (iV.view.loc (thr d L) ↦{qs (wL L)} ix d)
    ∗ (∃ f, ⌜Done tab ix d L k f⌝ ∗ oLoc d ↦[oSet (wL L)]{fullShare} f)
    ∗ (∃ f, sV.view.loc (thr d L) ↦{fullShare} f)
    ∗ (∃ f, rV.view.loc (thr d L) ↦{fullShare} f)
    ∗ semVal (thr d L, SemLoc.dma cc0_scratch2.sem) 0
    ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

theorem inb_of (hix : InRows (ix d)) (k : Fin k0_t1_loop.trips) (fs : Buf (Elt F) ((thr d L).loc cc0_scratch0)) (pay : S128.Idx → Elt F .i32)
    (hpay : pay = (iChunk L k).view.read (Elt F) (ix d)) :
    ∀ x, ((sV).view.read (Elt F) (View.write (Elt F) (sV).view fs pay Finset.univ) x).toNat < S32768x128.size gathers_S32768x128_S128x128.axis := by
  subst hpay; intro x
  rw [View.write_whole_univ]
  simp only [Memref.view_whole, View.read_whole]
  rw [show ∀ j, (iChunk L k).view.read (Elt F) (ix d) j = ix d ((iChunk L k).view.emb j) from fun j => (View.read_apply _ _).trans (cast_eq _ _)]
  exact hix _

/-- The list's scratch as the fetch leaves it. -/
theorem list_read (k : Fin k0_t1_loop.trips) (fs : Buf (Elt F) ((thr d L).loc cc0_scratch0)) (pay : S128.Idx → Elt F .i32)
    (hpay : pay = (iChunk L k).view.read (Elt F) (ix d)) (x : S128.Idx) (j : S262144.Idx) (hj : (j 0).val = base L k + (x 0).val) :
    (sV).view.read (Elt F) (View.write (Elt F) (sV).view fs pay Finset.univ) x = ix d j := by
  subst hpay
  rw [View.write_whole_univ]
  simp only [Memref.view_whole, View.read_whole]
  refine ((View.read_apply _ _).trans (cast_eq _ _)).trans (congrArg (ix d) (funext fun a => ?_))
  match a with
  | 0 => exact Fin.ext ((iChunk_emb L k x).trans hj.symm)

/-- The gathered rows, at an index of the scratch, are the result at the index of the output the write-out sends it to. -/
theorem gathered (hix : InRows (ix d)) (k : Fin k0_t1_loop.trips) (idx : S128.Idx → Elt F .i32) (hn : S128.numel = S128x128.size gathers_S32768x128_S128x128.axis')
    (hidx : ∀ (x : S128.Idx) (j : S262144.Idx), (j 0).val = base L k + (x 0).val → idx x = ix d j)
    (hin : ∀ x, (idx x).toNat < S32768x128.size gathers_S32768x128_S128x128.axis) (y : S128x128.Idx) :
    SparseCore.gatherPayload gathers_S32768x128_S128x128 (tAll.view.read (Elt F) (tab d)) (SparseCore.rows idx hn hin) y
      = res tab ix d ((oChunk L k).view.emb y) := by
  unfold SparseCore.gatherPayload res rowsOf
  refine ((View.read_apply _ _).trans (cast_eq _ _)).trans (congrArg (tab d) (funext fun a => ?_))
  have hemb : ∀ (z : S32768x128.Idx), (tAll.view.emb z : S32768x128.Idx) = z := fun z => by
    funext a; refine Fin.ext ?_
    show (![0, 0] : Fin 2 → ℕ) a + 1 * (z a).val = _
    match a with
    | 0 => simp
    | 1 => simp
  rw [hemb]
  match a with
  | 0 =>
    refine (Shape.Gathers.idx_axis gathers_S32768x128_S128x128 (SparseCore.rows idx hn hin) y).trans (Fin.ext ?_)
    unfold SparseCore.rows
    have hj := hidx (S128.rowMajor.symm ((y gathers_S32768x128_S128x128.axis').cast hn.symm)) (ix1 ((oChunk L k).view.emb y 0))
      ((oChunk_emb0 L k y).trans ?_)
    · exact (congrArg BitVec.toNat hj).trans (Nat.mod_eq_of_lt (hix _)).symm
    · congr 1
      have := rowMajor_val1 (S128.rowMajor.symm ((y gathers_S32768x128_S128x128.axis').cast hn.symm))
      rw [Equiv.apply_symm_apply] at this
      exact this
  | 1 => exact Fin.ext ((Shape.Gathers.idx_of_ne gathers_S32768x128_S128x128 (SparseCore.rows idx hn hin) y 1 (by decide)).trans (oChunk_emb1 L k y).symm)

/-- The write-out changes its own rows only. -/
theorem writes_off (k : Fin k0_t1_loop.trips) (fo : Buf (Elt F) (oLoc d)) (w : S128x128.Idx → Elt F .f32) (x : S262144x128.Idx) (hc : x ∉ (oChunk L k).view.set) :
    (oChunk L k).view.writes (Elt F) fo [⟨Rect.whole S128x128, w⟩] x = fo x := by
  have h : x ∉ ((oChunk L k).view.slice (Rect.whole S128x128)).setOn Finset.univ := fun h =>
    hc (View.set_slice_subset (v := (oChunk L k).view) (Rect.whole S128x128) h)
  rw [View.writes_singleton]
  exact View.write_of_not_mem (v := (oChunk L k).view.slice (Rect.whole S128x128)) fo w Finset.univ h

/-- After the write-out the task's first `128 (k + 1)` rows are gathered. -/
theorem done_step (k : Fin k0_t1_loop.trips) (fo : Buf (Elt F) (oLoc d)) (hfo : Done tab ix d L k fo) (w : S128x128.Idx → Elt F .f32)
    (hw : ∀ y, w y = res tab ix d ((oChunk L k).view.emb y)) :
    Done tab ix d L (k + 1) ((oChunk L k).view.writes (Elt F) fo [⟨Rect.whole S128x128, w⟩]) := by
  intro x hx hlt
  by_cases hc : x ∈ (oChunk L k).view.set
  · obtain ⟨y, -, rfl⟩ := Finset.mem_map.mp hc
    rw [← hw]
    have := View.read_writes_cons_emb (oChunk L k).view (Val := Elt F) fo (Rect.whole S128x128) w [] y
    rw [Rect.emb_whole_apply] at this
    exact this
  · have hlt' : (x 0).val < base L k := by
      by_contra h
      exact hc ((mem_oChunk L k x).2 ⟨not_lt.1 h, by unfold base at hlt ⊢; omega⟩)
    rw [writes_off d L k fo w x hc]
    exact hfo x hx hlt'

set_option maxHeartbeats 4000000 in
theorem trip (hix : InRows (ix d)) (O : CellTallies nD τ sig (HIx 1)) (W : Waits sig (HIx 1)) (k : Fin k0_t1_loop.trips) (acc : BitVec 32) :
    inv tab ix d L O W k acc ⊢ wp frame (wpE (defs₀ (F := F)) 𝒱₀ (thr d L) none) Set.univ
      (k0_t1_body L tV (Memref.isWhole_whole _) iV (Memref.isWhole_whole _) oV (Memref.isWhole_whole _)
            sV (Memref.isWhole_whole _) rV (Memref.isWhole_whole _) cc0_scratch2 cc0_scoped0 cc0_scoped1 k acc)
      fun a => inv tab ix d L O W (k + 1) a := by
  unfold inv k0_t1_body
  iintro ⟨#Hmw, Ht, Hi, ⟨%fo, %hfo, Ho⟩, ⟨%fs, Hs⟩, ⟨%fr, Hr⟩, Ha, Hb, Hc, %W', %hW', HO⟩
  ihave Hos := (pointsTo_split_subset (q := fullShare) (f := fo) (oChunk_subset L k)).1 $$ Ho
  icases Hos with ⟨Hoc, Hor⟩
  ihave Hoc := (show (oLoc d ↦[(oChunk L k).view.set]{fullShare} fo : sProp 𝕄) ⊢ ((oChunk L k).view.loc (thr d L) ↦[(oChunk L k).view.set]{fullShare} fo) from .rfl) $$ Hoc
  sl_exec (disch := exact View.amount_pos _ _ (show 0 < S128.numel by decide))
  have hin := inb_of ix d L hix k fs (trip.sl.dma0 ix d L k) rfl
  sl_exec (disch := exact View.amount_pos _ _ (show 0 < S128x128.numel by decide))
  sl_step
  have hw : ∀ y, trip.sl.dma0_1 tab ix d L k fs fr hin y = res tab ix d ((oChunk L k).view.emb y) := by
    intro y
    unfold trip.sl.dma0_1 trip.sl.gather0
    have := View.read_writes_cons_emb rV.view (Val := Elt F) fr (Rect.whole S128x128) (SparseCore.gatherPayload gathers_S32768x128_S128x128
      (tAll.view.read (Elt F) (tab d)) (SparseCore.rows ((sV).view.read (Elt F) (View.write (Elt F) (sV).view fs (trip.sl.dma0 ix d L k) Finset.univ)) rfl hin)) [] y
    rw [Rect.emb_whole_apply] at this
    exact this.trans (gathered tab ix d L hix k _ rfl (fun x j hj => list_read ix d L k fs _ rfl x j hj) hin y)
  have hdone := done_step tab ix d L k fo hfo _ hw
  isplitl []; · iexact Hmw
  isplitl [Ht]; · iexact Ht
  isplitl [Hi]; · iexact Hi
  isplitl [Hoc Hor]
  · iexists _; isplitr; · ipureintro; exact hdone
    ihave Hor' := (Entails.of_eq (show (oLoc d ↦[oSet (wL L) \ (oChunk L k).view.set]{fullShare} fo : sProp 𝕄)
      = oLoc d ↦[oSet (wL L) \ (oChunk L k).view.set]{fullShare} (oChunk L k).view.writes (Elt F) fo [⟨Rect.whole S128x128, trip.sl.dma0_1 tab ix d L k fs fr hin⟩]
      from pointsTo_congr fun x hx => (writes_off d L k fo _ x (Finset.mem_sdiff.1 hx).2).symm)) $$ Hor
    iapply (pointsTo_split_subset (q := fullShare) (oChunk_subset L k)).2
    isplitl [Hoc]; · iexact Hoc
    iexact Hor'
  isplitl [Hs]; · iexists _; iexact Hs
  isplitl [Hr]; · iexists _; iexact Hr
  isplitl [Ha]; · iexact Ha
  isplitl [Hb]; · iexact Hb
  isplitl [Hc]; · iexact Hc
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The task -/

abbrev acell : GSem nD τ sig := (thr d L, .dma cc0_scratch2.sem)
abbrev bcell : GSem nD τ sig := (thr d L, .dma cc0_scoped0.sem)
abbrev ccell : GSem nD τ sig := (thr d L, .dma cc0_scoped1.sem)

/-- The kernel's three semaphores are among the subcore's own. -/
theorem ownSems0_thr :
    (ownSems0 (thr d L) : sProp 𝕄)
      = iprop(semVal (acell d L) 0 ∗ semVal (bcell d L) 0 ∗ semVal (ccell d L) 0
          ∗ bigSep ((((ownCells (thr d L)).erase (acell d L)).erase (bcell d L)).erase (ccell d L)) fun g => semVal g 0) := by
  unfold SparseCore.Cfg.ownSems0
  rw [SparseCore.bigSep_erase' ((mem_ownCells (g := acell d L)).mpr ⟨rfl, by
      show (SemLoc.dma cc0_scratch2.sem : SemLoc sig).isScoped .scVector = true; decide⟩),
    SparseCore.bigSep_erase' (Finset.mem_erase.mpr ⟨by simp [acell, bcell]; decide, (mem_ownCells (g := bcell d L)).mpr ⟨rfl, by
      show (SemLoc.dma cc0_scoped0.sem : SemLoc sig).isScoped .scVector = true; decide⟩⟩),
    SparseCore.bigSep_erase' (Finset.mem_erase.mpr ⟨by simp [bcell, ccell]; decide, Finset.mem_erase.mpr ⟨by simp [acell, ccell]; decide,
      (mem_ownCells (g := ccell d L)).mpr ⟨rfl, by show (SemLoc.dma cc0_scoped1.sem : SemLoc sig).isScoped .scVector = true; decide⟩⟩⟩)]

/-- The two scratches are among the subcore's own buffers. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem done_zero (f : Buf (Elt F) (oLoc d)) : Done tab ix d L 0 f := fun x hx h => by
  have := (mem_oSet _ x).1 hx
  unfold base at h; omega

theorem done_all (f : Buf (Elt F) (oLoc d)) (h : Done tab ix d L k0_t1_loop.trips f) :
    (oLoc d ↦[oSet (wL L)]{fullShare} f : sProp 𝕄) = oLoc d ↦[oSet (wL L)]{fullShare} res tab ix d :=
  pointsTo_congr fun x hx => h x hx (by have := (mem_oSet _ x).1 hx; rw [trips_eq]; unfold base; omega)

set_option maxHeartbeats 4000000 in
/-- The task on the tile at `L`: from its resources it brings them back, its rows of the output gathered. -/
theorem tile_body (hF : (K (F := F)).Facts) (hix : InRows (ix d)) (O : CellTallies nD τ sig (HIx 1)) (W : Waits sig (HIx 1)) (hO : ∀ g, O g none = 0) :
    iprop(levAts (K (F := F)).L (K (F := F)).lev ∗ emp ∗ task tab ix d (wL L) (o₀ d)
        ∗ scopedBufs (thr d L) ∗ scopedSems0 (thr d L) ∗ owes (thr d L) O W)
      ⊢ wp frame (wpE (defs₀ (F := F)) 𝒱₀ (thr d L) none) Set.univ
          (cc0_gather_k L tV (Memref.isWhole_whole _) iV (Memref.isWhole_whole _) oV (Memref.isWhole_whole _)
            sV (Memref.isWhole_whole _) rV (Memref.isWhole_whole _) cc0_scratch2 cc0_scoped0 cc0_scoped1)
          fun _ => iprop(task tab ix d (wL L) (res tab ix d) ∗ scopedBufs (thr d L) ∗ scopedSems0 (thr d L)
            ∗ ∃ W', ⌜∀ p ∈ W', p ∈ W ∨ p.2 = none⌝ ∗ owes (thr d L) O W') := by
  simp only [cc0_gather_k_eq_skeleton]; unfold cc0_gather_k_skel
  rw [(K (F := F)).scopedBufs_V hF d (cV L) (jV L), SparseCore.Cfg.scopedSems0_V (Val := Elt F) d (cV L) (jV L), ownSems0_thr, ownBufs_thr]
  iintro ⟨#Hlv, -, ⟨Ht, Hi, Ho⟩, ⟨Hs, Hr, Hbufs⟩, ⟨Ha, Hb, Hc, Hsems⟩, HO⟩
  ihave Hmw := (show levAts (K (F := F)).L (K (F := F)).lev ⊢ Transfers.MayWaits (thr d L) (none : HIx 1) O from
    (K (F := F)).mayWaits_none (thr := thr d L) hO) $$ Hlv
  sl_for (inv tab ix d L O W) $$ [Hmw Ht Hi Ho Hs Hr Ha Hb Hc HO]
  case region => exact fun k acc => trip tab ix d L hix O W k acc
  · unfold inv
    isplitl [Hmw]; · iexact Hmw
    isplitl [Ht]; · iexact Ht
    isplitl [Hi]; · iexact Hi
    isplitl [Ho]
    · iexists _; isplitr; · ipureintro; exact done_zero tab ix d L (o₀ d)
      iexact Ho
    isplitl [Hs]; · iexact Hs
    isplitl [Hr]; · iexact Hr
    isplitl [Ha]; · iexact Ha
    isplitl [Hb]; · iexact Hb
    isplitl [Hc]; · iexact Hc
    iexists W; isplitr
    · ipureintro; exact fun p hp => .inl hp
    · iexact HO
  iintro %_ HI
  unfold inv
  icases HI with ⟨-, Ht, Hi, ⟨%f, %hf, Ho⟩, Hs, Hr, Ha, Hb, Hc, %W', %hW', HO⟩
  sl_exec
  sl_step
  ihave Ho := (Entails.of_eq (done_all tab ix d L f hf)) $$ Ho
  isplitl [Ht Hi Ho]
  · isplitl [Ht]; · iexact Ht
    isplitl [Hi]; · iexact Hi
    iexact Ho
  isplitl [Hs Hr Hbufs]
  · isplitl [Hs]; · iexact Hs
    isplitl [Hr]; · iexact Hr
    iexact Hbufs
  isplitl [Ha Hb Hc Hsems]
  · isplitl [Ha]; · iexact Ha
    isplitl [Hb]; · iexact Hb
    isplitl [Hc]; · iexact Hc
    iexact Hsems
  iexists W'; isplitr
  · ipureintro; exact hW'
  · iexact HO

end Cert.Proof.Rows

end
-- ==== Proof.Gather.lean ====
/-
  @main around the gather: the host operations that lay out the table and the list of row numbers, the call, and the
  final memory. The TensorCore holds every array of the device at a valuation: after the host operations, then with
  the output replaced by the gathered rows.
-/
module

public import proofs.«01_k».proof.Proof.Tile
public import Idealize.ShloMosaic.Lib.Pipeline.Frame

@[expose] public section

noncomputable section

namespace Cert.Proof.Rows

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]

/-! ## The call's parts -/

section Call

variable (tab : (d : Dev nD) → Buf (Elt F) (tLoc d)) (ix : (d : Dev nD) → Buf (Elt F) (iLoc d)) (o₀ : (d : Dev nD) → Buf (Elt F) (oLoc d))

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          tV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A task's waits are none of the launch's, so they are waits the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hix : ∀ d, InRows (ix d)) : (K (F := F)).TileObl (D (F := F)) 𝒱 (P tab ix o₀) v₀ 0 := by
  intro d c i O W hO _ _
  simp only [show (P tab ix o₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tab ix o₀ d (coordsV ⟨_, hci.1⟩ ⟨_, hci.2⟩) hF (hix d) O W hO).trans (wp_mono frame _ _ fun _ => obl_post)

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P tab ix o₀) 0 := by
  intro d c
  show (bigSep Finset.univ fun i : Fin 16 => task tab ix d (wid (Fin.cast nCore_zero c) i) (o₀ d)) ⊢ |={Set.univ}=> iprop(
      (bigSep Finset.univ fun i : Fin ((K (F := F)).nSub 0) => task tab ix d (wid (Fin.cast nCore_zero c) (Fin.cast nSub_zero i)) (o₀ d))
      ∗ ((bigSep Finset.univ fun i : Fin ((K (F := F)).nSub 0) => task tab ix d (wid (Fin.cast nCore_zero c) (Fin.cast nSub_zero i)) (res tab ix d))
          -∗ bigSep Finset.univ fun i : Fin 16 => task tab ix d (wid (Fin.cast nCore_zero c) i) (res tab ix d)))
  rw [bigSep_tiles (F := F) (fun i => task tab ix d (wid (Fin.cast nCore_zero c) i) (o₀ d)),
    bigSep_tiles (F := F) (fun i => task tab ix d (wid (Fin.cast nCore_zero c) i) (res tab ix d))]
  iintro H; imodintro
  isplitl [H]; · iexact H
  iintro H; iexact H

/-- The two SparseCores' shares together are the three arrays, whole. -/
theorem cores_eq (d : Dev nD) (f : Buf (Elt F) (oLoc d)) :
    (bigSep Finset.univ fun c : Fin ((K (F := F)).nCore 0) => bigSep Finset.univ fun i : Fin 16 => task tab ix d (wid (Fin.cast nCore_zero c) i) f)
      = (iprop((tLoc d ↦{fullShare} tab d) ∗ (iLoc d ↦{fullShare} ix d) ∗ (oLoc d ↦{fullShare} f)) : sProp 𝕄) := by
  rw [whole_eq_tasks]
  exact ((bigSep_univ_equiv widEquiv (fun w => task tab ix d w f)).trans (bigSep_univ_prod fun p => task tab ix d (widEquiv p) f)).symm

theorem st_eq (d : Dev nD) : (bigSep Finset.univ fun c : Fin ((K (F := F)).nCore 0) => (P tab ix o₀).st 0 d c)
    = (iprop((tLoc d ↦{fullShare} tab d) ∗ (iLoc d ↦{fullShare} ix d) ∗ (oLoc d ↦{fullShare} o₀ d)) : sProp 𝕄) := cores_eq tab ix d (o₀ d)
theorem dn_eq (d : Dev nD) : (bigSep Finset.univ fun c : Fin ((K (F := F)).nCore 0) => (P tab ix o₀).dn 0 d c)
    = (iprop((tLoc d ↦{fullShare} tab d) ∗ (iLoc d ↦{fullShare} ix d) ∗ (oLoc d ↦{fullShare} res tab ix d)) : sProp 𝕄) := cores_eq tab ix d (res tab ix d)

/-- The three arrays the call takes. -/
def callRefs : Finset (DevRef τ sig) := {Proc.devRef .tc main_v13, Proc.devRef .tc main_v14, Proc.devRef .tc main_v15}

theorem callRefs_sub : callRefs ⊆ Pipeline.ucRefs τ sig := by decide

theorem held_call (d : Dev nD) (W : Valuation τ sig (Elt F)) :
    (held (d.tc : Thread nD τ) callRefs W : sProp 𝕄)
      = iprop((tLoc d ↦{fullShare} W (Proc.devRef .tc main_v13)) ∗ (iLoc d ↦{fullShare} W (Proc.devRef .tc main_v14))
          ∗ (oLoc d ↦{fullShare} W (Proc.devRef .tc main_v15))) := by
  unfold held callRefs
  rw [SparseCore.bigSep_insert' (by decide), SparseCore.bigSep_insert' (by decide), bigSep_singleton]

/-- The gathered rows put in the output's place. -/
abbrev atCall (W : Valuation τ sig (Elt F)) : Valuation τ sig (Elt F) :=
  Function.update W (Proc.devRef .tc main_v15) (rowsOf (F := F) (W (Proc.devRef .tc main_v13)) (W (Proc.devRef .tc main_v14)))

theorem atCall_out (W : Valuation τ sig (Elt F)) :
    atCall W (Proc.devRef .tc main_v15) = rowsOf (F := F) (W (Proc.devRef .tc main_v13)) (W (Proc.devRef .tc main_v14)) := Function.update_self ..
theorem atCall_ne (W : Valuation τ sig (Elt F)) {b : DevRef τ sig} (h : b ≠ Proc.devRef .tc main_v15) : atCall W b = W b := Function.update_of_ne h ..

/-- The call, from every array of the device held at `W d`: they come back, the output gathered. -/
theorem wp_gather (W : (d : Dev nD) → Valuation τ sig (Elt F)) (κ : GSem nD τ sig → ℕ) (d : Dev nD) {Φ : PUnit → sProp 𝕄} :
    iprop((K (F := F)).ctx EH (P (fun d => W d (Proc.devRef .tc main_v13)) (fun d => W d (Proc.devRef .tc main_v14)) (fun d => W d (Proc.devRef .tc main_v15))) κ
        ∗ (K (F := F)).tcSt EH d 0 ∗ held (d.tc : Thread nD τ) (Pipeline.ucRefs τ sig) (W d)
        ∗ (((K (F := F)).tcSt EH d 1 ∗ held (d.tc : Thread nD τ) (Pipeline.ucRefs τ sig) (atCall (W d))) -∗ Φ ⟨⟩))
      ⊢ wp frame (wpE ((K (F := F)).defs (D (F := F))) 𝒱 (SparseCore.T d) none) Set.univ ((K (F := F)).run d 0) Φ := by
  rw [held_sub_split (d.tc : Thread nD τ) callRefs_sub (W d), held_sub_split (d.tc : Thread nD τ) callRefs_sub (atCall (W d)), held_call, held_call,
    atCall_out, atCall_ne (W d) (by decide), atCall_ne (W d) (by decide),
    held_congr (d.tc : Thread nD τ) (S := Pipeline.ucRefs τ sig \ callRefs) (V := atCall (W d)) (V' := W d)
      fun b hb => atCall_ne (W d) fun e => (Finset.mem_sdiff.1 hb).2 (e ▸ by decide)]
  iintro ⟨#Hctx, Hst, ⟨Hcall, Hrest⟩, Hk⟩
  iapply ((K (F := F)).wp_run (D (F := F)) 𝒱 (EH := EH) (P := P (fun d => W d (Proc.devRef .tc main_v13)) (fun d => W d (Proc.devRef .tc main_v14)) (fun d => W d (Proc.devRef .tc main_v15))) κ d 0) $$ [Hst Hcall Hrest Hk]
  isplitr; · iexact Hctx
  isplitl [Hst]; · iexact Hst
  isplitl [Hcall]
  · rw [st_eq]; iexact Hcall
  iintro ⟨Hst, Hdn⟩
  ihave Hdn' := (Entails.of_eq (dn_eq (F := F) (fun d => W d (Proc.devRef .tc main_v13)) (fun d => W d (Proc.devRef .tc main_v14)) (fun d => W d (Proc.devRef .tc main_v15)) d)) $$ Hdn
  iapply Hk
  isplitl [Hst]; · iexact Hst
  isplitl [Hdn'] <;> iassumption

end Call

end Cert.Proof.Rows

end
-- ==== Proof.Keep.lean ====
/-
  What a tensor-core call keeps by while its blocks are worked on: the core's scoped buffers that are none of its windows'
  and its generator register, whatever it holds.
-/
module

public import proofs.«01_k».proof.Proof.Setup
public import Idealize.ShloMosaic.Lib.Pipeline.FrameBody
public import Idealize.ShloMosaic.Lib.Pipeline.FrameSuffix
public import Idealize.ShloMosaic.Lib.Pipeline.RegionsLoop
public import Idealize.ShloMosaic.Lib.Pipeline.Value
public import Idealize.ShloMosaic.Lib.VecWindow
public import Idealize.ShloMosaic.Lib.Ring
public import Idealize.ShloMosaic.Lib.WordCmp

@[expose] public section

noncomputable section

namespace Cert.Proof

open Cert.KernelIdeal
open Cert.Proof.Rows (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase

variable {F : FTy → Type} [FloatOps F]

def keep {gr : ℕ} {W : ℕ} (win : Fin W → Pipeline.WinSpec sig gr) (c : Dev nD) : sProp (MT nD τ sig (HIx 1) (Elt F) ℕ UU ℕ) :=
  iprop(Pipeline.scopedRest (Ix := HIx 1) (Name := ℕ) (U := UU) (Lvl := ℕ) (Val := Elt F) win c ∗ ∃ r, prngReg c r)

end Cert.Proof
-- ==== Proof.Stats1.lean ====
/-
  The first statistics call: over the 128 blocks of 2048 gathered rows it sums the first layer's values and their
  squares, one row of 64 sums each, in a window that stays on the core from point to point and is written back once.
  At each point the sums become `k1_pay2` of the point's blocks and the sums before (zeros at the first point).
-/
module

public import proofs.«01_k».proof.Proof.Keep

@[expose] public section

noncomputable section

namespace Cert.Proof.Stats

open Cert.KernelIdeal Cert.KernelIdeal.Gen
open Cert.Proof.Rows (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Pipeline

variable {F : FTy → Type} [FloatOps F]

local notation "𝕄" => MT nD τ sig (HIx 1) (Elt F) ℕ UU ℕ

/-- The body's test for the first point. -/
abbrev first (i : grid1.Coords) : Prop := (Scalar.cmpi .ne (Scalar.extui (Scalar.cmpi .eq (BitVec.ofNat 32 (i 0).val) 0#32)) 0#32) = 1#1

theorem first_iff (t : Fin cfg1.N) : first (grid1.coords t) ↔ t.val = 0 := by
  have ht : t.val < 128 := Nat.lt_of_lt_of_eq t.isLt N_1
  have e0 : (grid1.coords t 0).val = t.val / 1 % 128 := Pipeline.Grid.coords_val t 0 (by decide) rfl
  simp only [first, e0]
  word_cmp

set_option maxHeartbeats 1000000 in
set_option maxRecDepth 16384 in
/-- The body at the first point: the sums are those of the block alone. -/
theorem run_first (c : Dev nD) (i : grid1.Coords) (a1 : Memref sig .tc .vmem S2048x128 .f32) (h1 : a1.IsWhole) (a2 : Memref sig .tc .vmem S2048x3 .f32) (h2 : a2.IsWhole)
    (a3 : Memref sig .tc .vmem S128x64 .f32) (h3 : a3.IsWhole) (a4 : Memref sig .tc .vmem S3x64 .f32) (h4 : a4.IsWhole) (a5 : Memref sig .tc .vmem S1x64 .f32) (h5 : a5.IsWhole)
    (a6 : Memref sig .tc .vmem S2x64 .f32) (h6 : a6.IsWhole) (hc : first i)
    (x1 : Vec F S2048x128 .f32) (x2 : Vec F S2048x3 .f32) (x3 : Vec F S128x64 .f32) (x4 : Vec F S3x64 .f32) (x5 : Vec F S1x64 .f32) (Q : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4
        ∗ owns (c : Thread nD τ) a5 fullShare x5 ∗ (∃ d, owns (c : Thread nD τ) a6 fullShare d)
        ∗ (iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare (k1_pay2 x1 x3 x2 x4 x5 (k1_pay1 (F := F)))) -∗ Q ⟨⟩))
      ⊢ wp frame (wpE (defs₀ (F := F)) Variants.none c none) Set.univ (cc1__stats1_kernel i a1 h1 a2 h2 a3 h3 a4 h4 a5 h5 a6 h6) Q := by
  simp only [cc1__stats1_kernel_eq_skeleton]; unfold cc1__stats1_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  obtain rfl := h1.eq_unread e1; obtain rfl := h2.eq_unread e2; obtain rfl := h3.eq_unread e3; obtain rfl := h4.eq_unread e4; obtain rfl := h5.eq_unread e5
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  unfold run_first.sl.v24 run_first.sl.H6_1
  rw [View.read_writes_full, View.readCov_full, View.readAt_full, View.readAt_full, View.readAt_full, View.readAt_full, View.readAt_full, e1, e2, e3, e4, e5]

set_option maxHeartbeats 1000000 in
set_option maxRecDepth 16384 in
/-- The body at a later point: the block's sums are added to those before. -/
theorem run_later (c : Dev nD) (i : grid1.Coords) (a1 : Memref sig .tc .vmem S2048x128 .f32) (h1 : a1.IsWhole) (a2 : Memref sig .tc .vmem S2048x3 .f32) (h2 : a2.IsWhole)
    (a3 : Memref sig .tc .vmem S128x64 .f32) (h3 : a3.IsWhole) (a4 : Memref sig .tc .vmem S3x64 .f32) (h4 : a4.IsWhole) (a5 : Memref sig .tc .vmem S1x64 .f32) (h5 : a5.IsWhole)
    (a6 : Memref sig .tc .vmem S2x64 .f32) (h6 : a6.IsWhole) (hc : ¬ first i)
    (x1 : Vec F S2048x128 .f32) (x2 : Vec F S2048x3 .f32) (x3 : Vec F S128x64 .f32) (x4 : Vec F S3x64 .f32) (x5 : Vec F S1x64 .f32) (x6 : Vec F S2x64 .f32) (Q : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4
        ∗ owns (c : Thread nD τ) a5 fullShare x5 ∗ owns (c : Thread nD τ) a6 fullShare x6
        ∗ (iprop(owns (c : Thread nD τ) a1 fullShare x1 ∗ owns (c : Thread nD τ) a2 fullShare x2 ∗ owns (c : Thread nD τ) a3 fullShare x3 ∗ owns (c : Thread nD τ) a4 fullShare x4
            ∗ owns (c : Thread nD τ) a5 fullShare x5 ∗ owns (c : Thread nD τ) a6 fullShare (k1_pay2 x1 x3 x2 x4 x5 x6)) -∗ Q ⟨⟩))
      ⊢ wp frame (wpE (defs₀ (F := F)) Variants.none c none) Set.univ (cc1__stats1_kernel i a1 h1 a2 h2 a3 h3 a4 h4 a5 h5 a6 h6) Q := by
  simp only [cc1__stats1_kernel_eq_skeleton]; unfold cc1__stats1_kernel_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, Hk⟩
  obtain rfl := h1.eq_unread e1; obtain rfl := h2.eq_unread e2; obtain rfl := h3.eq_unread e3; obtain rfl := h4.eq_unread e4; obtain rfl := h5.eq_unread e5
  obtain rfl := h6.eq_unread e6
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  rw [View.read_writes_full, View.readAt_full, View.readAt_full, View.readAt_full, View.readAt_full, View.readAt_full, View.readAt_full, e1, e2, e3, e4, e5, e6]

variable (V : (c : Dev nD) → (b : Ref sig .tc) → Buf (Elt F) ((c : Thread nD τ).loc b))

/-- Window `w`'s block at point `t`, read off its array as the call finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step of the sums. -/
def step (c : Dev nD) (t : Fin cfg1.N) (s : Vec F S2x64 .f32) : Vec F S2x64 .f32 :=
  k1_pay2 (F := F) (blk V c 0 t) (blk V c 2 t) (blk V c 1 t) (blk V c 3 t) (blk V c 4 t) s

/-- The sums after point `n`. -/
def sums (c : Dev nD) : (n : ℕ) → n < cfg1.N → Vec F S2x64 .f32
  | 0, h => step V c ⟨0, h⟩ (k1_pay1 (F := F))
  | n + 1, h => step V c ⟨n + 1, h⟩ (sums c n (Nat.lt_of_succ_lt h))

theorem sums_first (c : Dev nD) (t : Fin cfg1.N) (h : t.val = 0) : sums V c t.val t.isLt = step V c t (k1_pay1 (F := F)) := by
  obtain ⟨n, hn⟩ := t
  cases n with
  | zero => rfl
  | succ n => exact absurd h (Nat.succ_ne_zero n)

theorem sums_later (c : Dev nD) (t : Fin cfg1.N) (h : t.val ≠ 0) :
    sums V c t.val t.isLt = step V c t (sums V c (t.val - 1) (Nat.lt_of_le_of_lt (Nat.sub_le _ _) t.isLt)) := by
  obtain ⟨n, hn⟩ := t
  cases n with
  | zero => exact absurd rfl h
  | succ n => rfl

/-- The call's proof data: its arrays as found, each input's buffer at its block, the output's at the sums so far. -/
def dat (c : Dev nD) : Dat τ (Elt F) (HIx 1) ℕ UU ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => sums V c t.val t.isLt
  Φ _ := keep spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = sums V c t.val t.isLt := by dsimp only [dat]

/-- An input's buffer holds its block when the body starts, whether or not it was fetched at this point. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg1.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg1.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
theorem before_4 (c : Dev nD) (t : Fin cfg1.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; rfl)
/-- After the first point the output's buffer still holds the sums of the point before. -/
theorem before_5 (c : Dev nD) (t : Fin cfg1.N) (h : t.val ≠ 0) (d) :
    (dat V c).before 5 t d = sums V c (t.val - 1) (Nat.lt_of_le_of_lt (Nat.sub_le _ _) t.isLt) := by
  have hN : t.val < 128 := Nat.lt_of_lt_of_eq t.isLt N_1
  rw [Dat.before_out_kept _ 5 rfl t (by omega) (Bool.eq_false_iff.mpr fun h => by have := (flush1_5 _).mp h; dsimp only at this; omega)
    (fun _ => rfl) (fun _ _ => rfl)]
  dsimp only [dat]

/-- The body at a point: the inputs' buffers hold their blocks, and the output's goes on by one step. -/
theorem sound (c : Dev nD) (t : Fin cfg1.N) :
    iprop((dat V c).Φ t.castSucc ∗ (dat V c).owesAt (none : HIx 1) t.castSucc
        ∗ (∃ d, owns (c : Thread nD τ) (st1_0 t) fullShare ((dat V c).before 0 t d)) ∗ (∃ d, owns (c : Thread nD τ) (st1_1 t) fullShare ((dat V c).before 1 t d))
        ∗ (∃ d, owns (c : Thread nD τ) (st1_2 t) fullShare ((dat V c).before 2 t d)) ∗ (∃ d, owns (c : Thread nD τ) (st1_3 t) fullShare ((dat V c).before 3 t d))
        ∗ (∃ d, owns (c : Thread nD τ) (st1_4 t) fullShare ((dat V c).before 4 t d)) ∗ (∃ d, owns (c : Thread nD τ) (st1_5 t) fullShare ((dat V c).before 5 t d)))
      ⊢ wp frame (wpE (defs₀ (F := F)) Variants.none c none) Set.univ (bodyAt1 t) fun _ =>
        iprop((dat V c).Φ t.succ ∗ (dat V c).owesAt (none : HIx 1) t.succ
          ∗ owns (c : Thread nD τ) (st1_0 t) fullShare ((dat V c).after 0 t) ∗ owns (c : Thread nD τ) (st1_1 t) fullShare ((dat V c).after 1 t)
          ∗ owns (c : Thread nD τ) (st1_2 t) fullShare ((dat V c).after 2 t) ∗ owns (c : Thread nD τ) (st1_3 t) fullShare ((dat V c).after 3 t)
          ∗ owns (c : Thread nD τ) (st1_4 t) fullShare ((dat V c).after 4 t) ∗ owns (c : Thread nD τ) (st1_5 t) fullShare ((dat V c).after 5 t)) := by
  unfold bodyAt1
  simp only [before_0, before_1, before_2, before_3, before_4]
  rw [show (dat V c).Φ t.succ = (dat V c).Φ t.castSucc from rfl, show (dat V c).owesAt (none : HIx 1) t.succ = (dat V c).owesAt (none : HIx 1) t.castSucc from rfl,
    after_0, after_1, after_2, after_3, after_4, after_5]
  by_cases h0 : t.val = 0
  · rw [sums_first V c t h0]
    iintro ⟨HΦ, Ho, ⟨%d0, H0⟩, ⟨%d1, H1⟩, ⟨%d2, H2⟩, ⟨%d3, H3⟩, ⟨%d4, H4⟩, ⟨%d5, H5⟩⟩
    iapply (run_first c (grid1.coords t) _ _ _ _ _ _ _ _ _ _ _ _ ((first_iff t).mpr h0) (blk V c 0 t) (blk V c 1 t) (blk V c 2 t) (blk V c 3 t) (blk V c 4 t) _)
    isplitl [H0]; · iexact H0
    isplitl [H1]; · iexact H1
    isplitl [H2]; · iexact H2
    isplitl [H3]; · iexact H3
    isplitl [H4]; · iexact H4
    isplitl [H5]; · iexists _; iexact H5
    iintro H
    isplitl [HΦ]; · iexact HΦ
    isplitl [Ho]; · iexact Ho
    iexact H
  · rw [sums_later V c t h0]
    simp only [before_5 V c t h0]
    iintro ⟨HΦ, Ho, ⟨%d0, H0⟩, ⟨%d1, H1⟩, ⟨%d2, H2⟩, ⟨%d3, H3⟩, ⟨%d4, H4⟩, ⟨%d5, H5⟩⟩
    iapply (run_later c (grid1.coords t) _ _ _ _ _ _ _ _ _ _ _ _ (fun h => h0 ((first_iff t).mp h)) (blk V c 0 t) (blk V c 1 t) (blk V c 2 t) (blk V c 3 t) (blk V c 4 t) _ _)
    isplitl [H0]; · iexact H0
    isplitl [H1]; · iexact H1
    isplitl [H2]; · iexact H2
    isplitl [H3]; · iexact H3
    isplitl [H4]; · iexact H4
    isplitl [H5]; · iexact H5
    iintro H
    isplitl [HΦ]; · iexact HΦ
    isplitl [Ho]; · iexact Ho
    iexact H

theorem body_row (t : Fin cfg1.N) : defs₀ (F := F) .tc cfg1.body (cfg1.bodyArgs t (cfg1.slots t)) = bodyAt1 t := by
  rfl

theorem body (c : Dev nD) : BodyObligation (dat (F := F) V c) (defs₀ (F := F)) Variants.none (none : HIx 1) Set.univ := fun t => by
  rw [bigSep_W1, bigSep_W1, body_row]
  exact triple_restated (sound V c t) rfl .rfl fun _ => .rfl

end Cert.Proof.Stats
-- ==== Proof.Layer2.lean ====
/-
  The second call: over the same 128 blocks it takes the first layer's values through its normalisation and the second
  layer. It adds up the second layer's values and their squares in a window that stays on the core, and writes, for each of a
  block's 64 groups of 32 rows, the group's largest and smallest value.
-/
module

public import proofs.«01_k».proof.Proof.Keep

@[expose] public section

noncomputable section

namespace Cert.Proof.Layer

open Cert.KernelIdeal Cert.KernelIdeal.Gen
open Cert.Proof.Rows (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Pipeline

variable {F : FTy → Type} [FloatOps F]

local notation "𝕄" => MT nD τ sig (HIx 1) (Elt F) ℕ UU ℕ

/-- The sums' and the squares' rows of a two-row vector. -/
def row0 (s : Vec F S2x64 .f32) : Vec F S1x64 .f32 := fun y => s ((Rect.unit (s := S2x64) ![0, 0] S1x64.size inb_S2x64_S1x64_0_0).toLoadRect.idx y)
def row1 (s : Vec F S2x64 .f32) : Vec F S1x64 .f32 := fun y => s ((Rect.unit (s := S2x64) ![1, 0] S1x64.size inb_S2x64_S1x64_1_0).toLoadRect.idx y)

/-- The sums after a point, the largest and the smallest values it writes: from its ten inputs. -/
def sumOf (x1 : Vec F S2048x128 .f32) (x2 : Vec F S2048x3 .f32) (x3 : Vec F S128x64 .f32) (x4 : Vec F S3x64 .f32) (x5 : Vec F S1x64 .f32) (x6 : Vec F S1x64 .f32) (x7 : Vec F S1x64 .f32) (x8 : Vec F S2x64 .f32) (x9 : Vec F S64x128 .f32) (x10 : Vec F S1x128 .f32) (s : Vec F S2x128 .f32) : Vec F S2x128 .f32 :=
  k2_pay3 (k2_pay9 (row0 x8) (row1 x8) x6 x7) (k2_pay10 x1 x3 x2 x4 x5) (k2_pay11 (row0 x8) (row1 x8) x6) x9 x10 s
def maxOf (x1 : Vec F S2048x128 .f32) (x2 : Vec F S2048x3 .f32) (x3 : Vec F S128x64 .f32) (x4 : Vec F S3x64 .f32) (x5 : Vec F S1x64 .f32) (x6 : Vec F S1x64 .f32) (x7 : Vec F S1x64 .f32) (x8 : Vec F S2x64 .f32) (x9 : Vec F S64x128 .f32) (x10 : Vec F S1x128 .f32) : Vec F S64x128 .f32 :=
  k2_pay5 (k2_pay9 (row0 x8) (row1 x8) x6 x7) (k2_pay10 x1 x3 x2 x4 x5) (k2_pay11 (row0 x8) (row1 x8) x6) x9 x10
def minOf (x1 : Vec F S2048x128 .f32) (x2 : Vec F S2048x3 .f32) (x3 : Vec F S128x64 .f32) (x4 : Vec F S3x64 .f32) (x5 : Vec F S1x64 .f32) (x6 : Vec F S1x64 .f32) (x7 : Vec F S1x64 .f32) (x8 : Vec F S2x64 .f32) (x9 : Vec F S64x128 .f32) (x10 : Vec F S1x128 .f32) : Vec F S64x128 .f32 :=
  k2_pay6 (k2_pay9 (row0 x8) (row1 x8) x6 x7) (k2_pay10 x1 x3 x2 x4 x5) (k2_pay11 (row0 x8) (row1 x8) x6) x9 x10

/-- The body's test for the first point. -/
abbrev first (i : grid2.Coords) : Prop := (Scalar.cmpi .ne (Scalar.extui (Scalar.cmpi .eq (BitVec.ofNat 32 (i 0).val) 0#32)) 0#32) = 1#1

theorem first_iff (t : Fin cfg2.N) : first (grid2.coords t) ↔ t.val = 0 := by
  have ht : t.val < 128 := Nat.lt_of_lt_of_eq t.isLt N_2
  have e0 : (grid2.coords t 0).val = t.val / 1 % 128 := Pipeline.Grid.coords_val t 0 (by decide) rfl
  simp only [first, e0]
  word_cmp

set_option maxHeartbeats 2000000 in
set_option maxRecDepth 16384 in
/-- The body at the first point: the sums start at zero. -/
theorem run_first (c : Dev nD) (i : grid2.Coords) (a1 : Memref sig .tc .vmem S2048x128 .f32) (h1 : a1.IsWhole) (a2 : Memref sig .tc .vmem S2048x3 .f32) (h2 : a2.IsWhole) (a3 : Memref sig .tc .vmem S128x64 .f32) (h3 : a3.IsWhole) (a4 : Memref sig .tc .vmem S3x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S2x64 .f32) (h8 : a8.IsWhole) (a9 : Memref sig .tc .vmem S64x128 .f32) (h9 : a9.IsWhole) (a10 : Memref sig .tc .vmem S1x128 .f32) (h10 : a10.IsWhole) (a11 : Memref sig .tc .vmem S2x128 .f32) (h11 : a11.IsWhole) (a12 : Memref sig .tc .vmem S64x128 .f32) (h12 : a12.IsWhole) (a13 : Memref sig .tc .vmem S64x128 .f32) (h13 : a13.IsWhole)
    (x1 : Vec F S2048x128 .f32) (x2 : Vec F S2048x3 .f32) (x3 : Vec F S128x64 .f32) (x4 : Vec F S3x64 .f32) (x5 : Vec F S1x64 .f32) (x6 : Vec F S1x64 .f32) (x7 : Vec F S1x64 .f32) (x8 : Vec F S2x64 .f32) (x9 : Vec F S64x128 .f32) (x10 : Vec F S1x128 .f32) (hc : first i) (Q : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ (∃ d, owns (c : Thread nD τ) a11 fullShare d) ∗ (∃ d, owns (c : Thread nD τ) a12 fullShare d) ∗ (∃ d, owns (c : Thread nD τ) a13 fullShare d)
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ owns (c : Thread nD τ) a11 fullShare (sumOf x1 x2 x3 x4 x5 x6 x7 x8 x9 x10 (k2_pay2 (F := F))) ∗ owns (c : Thread nD τ) a12 fullShare (maxOf x1 x2 x3 x4 x5 x6 x7 x8 x9 x10) ∗ owns (c : Thread nD τ) a13 fullShare (minOf x1 x2 x3 x4 x5 x6 x7 x8 x9 x10)) -∗ Q ⟨⟩))
      ⊢ wp frame (wpE (defs₀ (F := F)) Variants.none c none) Set.univ (cc2__layer2_kernel i a1 h1 a2 h2 a3 h3 a4 h4 a5 h5 a6 h6 a7 h7 a8 h8 a9 h9 a10 h10 a11 h11 a12 h12 a13 h13) Q := by
  simp only [cc2__layer2_kernel_eq_skeleton]; unfold cc2__layer2_kernel_skel
  simp only [k2_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%d13, %f13, -, H13⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  have r0 : View.readAt (Elt F) a8.view (Rect.unit (s := S2x64) ![0, 0] S1x64.size inb_S2x64_S1x64_0_0).toLoadRect (h8.unread x8) = row0 x8 := funext fun y => congrFun e8 _
  have r1 : View.readAt (Elt F) a8.view (Rect.unit (s := S2x64) ![1, 0] S1x64.size inb_S2x64_S1x64_1_0).toLoadRect (h8.unread x8) = row1 x8 := funext fun y => congrFun e8 _
  have e1' := (View.readAt_full a1.view (h1.unread x1) inb_S2048x128_S2048x128_0_0).trans e1
  have e2' := (View.readAt_full a2.view (h2.unread x2) inb_S2048x3_S2048x3_0_0).trans e2
  have e3' := (View.readAt_full a3.view (h3.unread x3) inb_S128x64_S128x64_0_0).trans e3
  have e4' := (View.readAt_full a4.view (h4.unread x4) inb_S3x64_S3x64_0_0).trans e4
  have e5' := (View.readAt_full a5.view (h5.unread x5) inb_S1x64_S1x64_0_0).trans e5
  have e6' := (View.readAt_full a6.view (h6.unread x6) inb_S1x64_S1x64_0_0).trans e6
  have e7' := (View.readAt_full a7.view (h7.unread x7) inb_S1x64_S1x64_0_0).trans e7
  have e9' := (View.readAt_full a9.view (h9.unread x9) inb_S64x128_S64x128_0_0).trans e9
  have e10' := (View.readAt_full a10.view (h10.unread x10) inb_S1x128_S1x128_0_0).trans e10
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_full ..).trans ?_
    unfold run_first.sl.v57 run_first.sl.H11_1 run_first.sl.r run_first.sl.r_1 sumOf
    rw [View.readCov_full]
  isplitl [H12]
  · iexists _; isplitr
    swap; · iexact H12
    ipureintro
    refine (View.read_writes_full ..).trans ?_
    unfold run_first.sl.r run_first.sl.r_1 maxOf
    rfl
  · iexists _; isplitr
    swap; · iexact H13
    ipureintro
    refine (View.read_writes_full ..).trans ?_
    unfold run_first.sl.r run_first.sl.r_1 minOf
    rfl

set_option maxHeartbeats 2000000 in
set_option maxRecDepth 16384 in
/-- The body at a later point: the sums go on from those before. -/
theorem run_later (c : Dev nD) (i : grid2.Coords) (a1 : Memref sig .tc .vmem S2048x128 .f32) (h1 : a1.IsWhole) (a2 : Memref sig .tc .vmem S2048x3 .f32) (h2 : a2.IsWhole) (a3 : Memref sig .tc .vmem S128x64 .f32) (h3 : a3.IsWhole) (a4 : Memref sig .tc .vmem S3x64 .f32) (h4 : a4.IsWhole) (a5 : Memref sig .tc .vmem S1x64 .f32) (h5 : a5.IsWhole) (a6 : Memref sig .tc .vmem S1x64 .f32) (h6 : a6.IsWhole) (a7 : Memref sig .tc .vmem S1x64 .f32) (h7 : a7.IsWhole) (a8 : Memref sig .tc .vmem S2x64 .f32) (h8 : a8.IsWhole) (a9 : Memref sig .tc .vmem S64x128 .f32) (h9 : a9.IsWhole) (a10 : Memref sig .tc .vmem S1x128 .f32) (h10 : a10.IsWhole) (a11 : Memref sig .tc .vmem S2x128 .f32) (h11 : a11.IsWhole) (a12 : Memref sig .tc .vmem S64x128 .f32) (h12 : a12.IsWhole) (a13 : Memref sig .tc .vmem S64x128 .f32) (h13 : a13.IsWhole)
    (x1 : Vec F S2048x128 .f32) (x2 : Vec F S2048x3 .f32) (x3 : Vec F S128x64 .f32) (x4 : Vec F S3x64 .f32) (x5 : Vec F S1x64 .f32) (x6 : Vec F S1x64 .f32) (x7 : Vec F S1x64 .f32) (x8 : Vec F S2x64 .f32) (x9 : Vec F S64x128 .f32) (x10 : Vec F S1x128 .f32) (x11 : Vec F S2x128 .f32) (hc : ¬ first i) (Q : PUnit → sProp 𝕄) :
    iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ owns (c : Thread nD τ) a11 fullShare x11 ∗ (∃ d, owns (c : Thread nD τ) a12 fullShare d) ∗ (∃ d, owns (c : Thread nD τ) a13 fullShare d)
        ∗ (iprop(owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ owns (c : Thread nD τ) a11 fullShare (sumOf x1 x2 x3 x4 x5 x6 x7 x8 x9 x10 x11) ∗ owns (c : Thread nD τ) a12 fullShare (maxOf x1 x2 x3 x4 x5 x6 x7 x8 x9 x10) ∗ owns (c : Thread nD τ) a13 fullShare (minOf x1 x2 x3 x4 x5 x6 x7 x8 x9 x10)) -∗ Q ⟨⟩))
      ⊢ wp frame (wpE (defs₀ (F := F)) Variants.none c none) Set.univ (cc2__layer2_kernel i a1 h1 a2 h2 a3 h3 a4 h4 a5 h5 a6 h6 a7 h7 a8 h8 a9 h9 a10 h10 a11 h11 a12 h12 a13 h13) Q := by
  simp only [cc2__layer2_kernel_eq_skeleton]; unfold cc2__layer2_kernel_skel
  simp only [k2_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, Hk⟩
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  have r0 : View.readAt (Elt F) a8.view (Rect.unit (s := S2x64) ![0, 0] S1x64.size inb_S2x64_S1x64_0_0).toLoadRect (h8.unread x8) = row0 x8 := funext fun y => congrFun e8 _
  have r1 : View.readAt (Elt F) a8.view (Rect.unit (s := S2x64) ![1, 0] S1x64.size inb_S2x64_S1x64_1_0).toLoadRect (h8.unread x8) = row1 x8 := funext fun y => congrFun e8 _
  have e1' := (View.readAt_full a1.view (h1.unread x1) inb_S2048x128_S2048x128_0_0).trans e1
  have e2' := (View.readAt_full a2.view (h2.unread x2) inb_S2048x3_S2048x3_0_0).trans e2
  have e3' := (View.readAt_full a3.view (h3.unread x3) inb_S128x64_S128x64_0_0).trans e3
  have e4' := (View.readAt_full a4.view (h4.unread x4) inb_S3x64_S3x64_0_0).trans e4
  have e5' := (View.readAt_full a5.view (h5.unread x5) inb_S1x64_S1x64_0_0).trans e5
  have e6' := (View.readAt_full a6.view (h6.unread x6) inb_S1x64_S1x64_0_0).trans e6
  have e7' := (View.readAt_full a7.view (h7.unread x7) inb_S1x64_S1x64_0_0).trans e7
  have e9' := (View.readAt_full a9.view (h9.unread x9) inb_S64x128_S64x128_0_0).trans e9
  have e10' := (View.readAt_full a10.view (h10.unread x10) inb_S1x128_S1x128_0_0).trans e10
  have e11' := (View.readAt_full a11.view (h11.unread x11) inb_S2x128_S2x128_0_0).trans e11
  sl_exec (disch := first | sl_exact hc)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; · ipureintro; exact h8.read_unread _
    iexact H8
  isplitl [H9]
  · iexists _; isplitr; · ipureintro; exact h9.read_unread _
    iexact H9
  isplitl [H10]
  · iexists _; isplitr; · ipureintro; exact h10.read_unread _
    iexact H10
  isplitl [H11]
  · iexists _; isplitr
    swap; · iexact H11
    ipureintro
    refine (View.read_writes_full ..).trans ?_
    unfold run_later.sl.r run_later.sl.r_1 sumOf
    rfl
  isplitl [H12]
  · iexists _; isplitr
    swap; · iexact H12
    ipureintro
    refine (View.read_writes_full ..).trans ?_
    unfold run_later.sl.r run_later.sl.r_1 maxOf
    rfl
  · iexists _; isplitr
    swap; · iexact H13
    ipureintro
    refine (View.read_writes_full ..).trans ?_
    unfold run_later.sl.r run_later.sl.r_1 minOf
    rfl

variable (V : (c : Dev nD) → (b : Ref sig .tc) → Buf (Elt F) ((c : Thread nD τ).loc b))

/-- Window `w`'s block at point `t`, read off its array as the call finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- One point's step of the sums, and the largest and smallest values it writes. -/
def step (c : Dev nD) (t : Fin cfg2.N) (s : Vec F S2x128 .f32) : Vec F S2x128 .f32 := sumOf (F := F) (blk V c 0 t) (blk V c 1 t) (blk V c 2 t) (blk V c 3 t) (blk V c 4 t) (blk V c 5 t) (blk V c 6 t) (blk V c 7 t) (blk V c 8 t) (blk V c 9 t) s
def most (c : Dev nD) (t : Fin cfg2.N) : Vec F S64x128 .f32 := maxOf (F := F) (blk V c 0 t) (blk V c 1 t) (blk V c 2 t) (blk V c 3 t) (blk V c 4 t) (blk V c 5 t) (blk V c 6 t) (blk V c 7 t) (blk V c 8 t) (blk V c 9 t)
def least (c : Dev nD) (t : Fin cfg2.N) : Vec F S64x128 .f32 := minOf (F := F) (blk V c 0 t) (blk V c 1 t) (blk V c 2 t) (blk V c 3 t) (blk V c 4 t) (blk V c 5 t) (blk V c 6 t) (blk V c 7 t) (blk V c 8 t) (blk V c 9 t)

/-- The sums after point `n`. -/
def sums (c : Dev nD) : (n : ℕ) → n < cfg2.N → Vec F S2x128 .f32
  | 0, h => step V c ⟨0, h⟩ (k2_pay2 (F := F))
  | n + 1, h => step V c ⟨n + 1, h⟩ (sums c n (Nat.lt_of_succ_lt h))

theorem sums_first (c : Dev nD) (t : Fin cfg2.N) (h : t.val = 0) : sums V c t.val t.isLt = step V c t (k2_pay2 (F := F)) := by
  obtain ⟨n, hn⟩ := t
  cases n with
  | zero => rfl
  | succ n => exact absurd h (Nat.succ_ne_zero n)

theorem sums_later (c : Dev nD) (t : Fin cfg2.N) (h : t.val ≠ 0) :
    sums V c t.val t.isLt = step V c t (sums V c (t.val - 1) (Nat.lt_of_le_of_lt (Nat.sub_le _ _) t.isLt)) := by
  obtain ⟨n, hn⟩ := t
  cases n with
  | zero => exact absurd rfl h
  | succ n => rfl

/-- The call's proof data: its arrays as found, each input's buffer at its block, the outputs' as told above. -/
def dat (c : Dev nD) : Dat τ (Elt F) (HIx 1) ℕ UU ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => sums V c t.val t.isLt
    | ⟨11, _⟩ => most V c t
    | ⟨12, _⟩ => least V c t
  Φ _ := keep spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = blk V c 2 t := by dsimp only [dat]
theorem after_3 (c : Dev nD) (t : Fin cfg2.N) : (dat V c).after 3 t = blk V c 3 t := by dsimp only [dat]
theorem after_4 (c : Dev nD) (t : Fin cfg2.N) : (dat V c).after 4 t = blk V c 4 t := by dsimp only [dat]
theorem after_5 (c : Dev nD) (t : Fin cfg2.N) : (dat V c).after 5 t = blk V c 5 t := by dsimp only [dat]
theorem after_6 (c : Dev nD) (t : Fin cfg2.N) : (dat V c).after 6 t = blk V c 6 t := by dsimp only [dat]
theorem after_7 (c : Dev nD) (t : Fin cfg2.N) : (dat V c).after 7 t = blk V c 7 t := by dsimp only [dat]
theorem after_8 (c : Dev nD) (t : Fin cfg2.N) : (dat V c).after 8 t = blk V c 8 t := by dsimp only [dat]
theorem after_9 (c : Dev nD) (t : Fin cfg2.N) : (dat V c).after 9 t = blk V c 9 t := by dsimp only [dat]
theorem after_10 (c : Dev nD) (t : Fin cfg2.N) : (dat V c).after 10 t = sums V c t.val t.isLt := by dsimp only [dat]
theorem after_11 (c : Dev nD) (t : Fin cfg2.N) : (dat V c).after 11 t = most V c t := by dsimp only [dat]
theorem after_12 (c : Dev nD) (t : Fin cfg2.N) : (dat V c).after 12 t = least V c t := by dsimp only [dat]

/-- An input's buffer holds its block when the body starts, whether or not it was fetched at this point. -/
theorem before_0 (c : Dev nD) (t : Fin cfg2.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg2.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg2.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg2.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
theorem before_4 (c : Dev nD) (t : Fin cfg2.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; rfl)
theorem before_5 (c : Dev nD) (t : Fin cfg2.N) (d) : (dat V c).before 5 t d = blk V c 5 t :=
  ((dat V c).before_in_eq_fetched 5 rfl (fun _ => rfl) (fun _ _ _ => rfl) (fun t => by rw [after_5]; unfold Dat.blockOf blk; rw [A_eq]) t d).trans
    (by unfold Dat.fetched Dat.blockOf blk; rw [A_eq]; rfl)
theorem before_6 (c : Dev nD) (t : Fin cfg2.N) (d) : (dat V c).before 6 t d = blk V c 6 t :=
  ((dat V c).before_in_eq_fetched 6 rfl (fun _ => rfl) (fun _ _ _ => rfl) (fun t => by rw [after_6]; unfold Dat.blockOf blk; rw [A_eq]) t d).trans
    (by unfold Dat.fetched Dat.blockOf blk; rw [A_eq]; rfl)
theorem before_7 (c : Dev nD) (t : Fin cfg2.N) (d) : (dat V c).before 7 t d = blk V c 7 t :=
  ((dat V c).before_in_eq_fetched 7 rfl (fun _ => rfl) (fun _ _ _ => rfl) (fun t => by rw [after_7]; unfold Dat.blockOf blk; rw [A_eq]) t d).trans
    (by unfold Dat.fetched Dat.blockOf blk; rw [A_eq]; rfl)
theorem before_8 (c : Dev nD) (t : Fin cfg2.N) (d) : (dat V c).before 8 t d = blk V c 8 t :=
  ((dat V c).before_in_eq_fetched 8 rfl (fun _ => rfl) (fun _ _ _ => rfl) (fun t => by rw [after_8]; unfold Dat.blockOf blk; rw [A_eq]) t d).trans
    (by unfold Dat.fetched Dat.blockOf blk; rw [A_eq]; rfl)
theorem before_9 (c : Dev nD) (t : Fin cfg2.N) (d) : (dat V c).before 9 t d = blk V c 9 t :=
  ((dat V c).before_in_eq_fetched 9 rfl (fun _ => rfl) (fun _ _ _ => rfl) (fun t => by rw [after_9]; unfold Dat.blockOf blk; rw [A_eq]) t d).trans
    (by unfold Dat.fetched Dat.blockOf blk; rw [A_eq]; rfl)
/-- After the first point the sums' buffer still holds the sums of the point before. -/
theorem before_10 (c : Dev nD) (t : Fin cfg2.N) (h : t.val ≠ 0) (d) :
    (dat V c).before 10 t d = sums V c (t.val - 1) (Nat.lt_of_le_of_lt (Nat.sub_le _ _) t.isLt) := by
  have hN : t.val < 128 := Nat.lt_of_lt_of_eq t.isLt N_2
  rw [Dat.before_out_kept _ 10 rfl t (by omega) (Bool.eq_false_iff.mpr fun h => by have := (flush2_10 _).mp h; dsimp only at this; omega)
    (fun _ => rfl) (fun _ _ => rfl)]
  dsimp only [dat]

/-- The body at a point, between the windows' buffers before and after. -/
theorem sound (c : Dev nD) (t : Fin cfg2.N) :
    iprop((dat V c).Φ t.castSucc ∗ (dat V c).owesAt (none : HIx 1) t.castSucc
        ∗ (∃ d, owns (c : Thread nD τ) (st2_0 t) fullShare ((dat V c).before 0 t d))
        ∗ (∃ d, owns (c : Thread nD τ) (st2_1 t) fullShare ((dat V c).before 1 t d))
        ∗ (∃ d, owns (c : Thread nD τ) (st2_2 t) fullShare ((dat V c).before 2 t d))
        ∗ (∃ d, owns (c : Thread nD τ) (st2_3 t) fullShare ((dat V c).before 3 t d))
        ∗ (∃ d, owns (c : Thread nD τ) (st2_4 t) fullShare ((dat V c).before 4 t d))
        ∗ (∃ d, owns (c : Thread nD τ) (st2_5 t) fullShare ((dat V c).before 5 t d))
        ∗ (∃ d, owns (c : Thread nD τ) (st2_6 t) fullShare ((dat V c).before 6 t d))
        ∗ (∃ d, owns (c : Thread nD τ) (st2_7 t) fullShare ((dat V c).before 7 t d))
        ∗ (∃ d, owns (c : Thread nD τ) (st2_8 t) fullShare ((dat V c).before 8 t d))
        ∗ (∃ d, owns (c : Thread nD τ) (st2_9 t) fullShare ((dat V c).before 9 t d))
        ∗ (∃ d, owns (c : Thread nD τ) (st2_10 t) fullShare ((dat V c).before 10 t d))
        ∗ (∃ d, owns (c : Thread nD τ) (st2_11 t) fullShare ((dat V c).before 11 t d))
        ∗ (∃ d, owns (c : Thread nD τ) (st2_12 t) fullShare ((dat V c).before 12 t d)))
      ⊢ wp frame (wpE (defs₀ (F := F)) Variants.none c none) Set.univ (bodyAt2 t) fun _ =>
        iprop((dat V c).Φ t.succ ∗ (dat V c).owesAt (none : HIx 1) t.succ
          ∗ owns (c : Thread nD τ) (st2_0 t) fullShare ((dat V c).after 0 t)
          ∗ owns (c : Thread nD τ) (st2_1 t) fullShare ((dat V c).after 1 t)
          ∗ owns (c : Thread nD τ) (st2_2 t) fullShare ((dat V c).after 2 t)
          ∗ owns (c : Thread nD τ) (st2_3 t) fullShare ((dat V c).after 3 t)
          ∗ owns (c : Thread nD τ) (st2_4 t) fullShare ((dat V c).after 4 t)
          ∗ owns (c : Thread nD τ) (st2_5 t) fullShare ((dat V c).after 5 t)
          ∗ owns (c : Thread nD τ) (st2_6 t) fullShare ((dat V c).after 6 t)
          ∗ owns (c : Thread nD τ) (st2_7 t) fullShare ((dat V c).after 7 t)
          ∗ owns (c : Thread nD τ) (st2_8 t) fullShare ((dat V c).after 8 t)
          ∗ owns (c : Thread nD τ) (st2_9 t) fullShare ((dat V c).after 9 t)
          ∗ owns (c : Thread nD τ) (st2_10 t) fullShare ((dat V c).after 10 t)
          ∗ owns (c : Thread nD τ) (st2_11 t) fullShare ((dat V c).after 11 t)
          ∗ owns (c : Thread nD τ) (st2_12 t) fullShare ((dat V c).after 12 t)) := by
  unfold bodyAt2
  simp only [before_0, before_1, before_2, before_3, before_4, before_5, before_6, before_7, before_8, before_9]
  rw [show (dat V c).Φ t.succ = (dat V c).Φ t.castSucc from rfl, show (dat V c).owesAt (none : HIx 1) t.succ = (dat V c).owesAt (none : HIx 1) t.castSucc from rfl,
    after_0, after_1, after_2, after_3, after_4, after_5, after_6, after_7, after_8, after_9, after_10, after_11, after_12]
  by_cases h0 : t.val = 0
  · rw [sums_first V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_first c (grid2.coords t) _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) ((first_iff t).mpr h0) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro H
    isplitl [HΦ]; · iexact HΦ
    isplitl [Ho]; · iexact Ho
    iexact H
  · rw [sums_later V c t h0]
    simp only [before_10 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run_later c (grid2.coords t) _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) _ (fun h => h0 ((first_iff t).mp h)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iintro H
    isplitl [HΦ]; · iexact HΦ
    isplitl [Ho]; · iexact Ho
    iexact H

theorem body_row (t : Fin cfg2.N) : defs₀ (F := F) .tc cfg2.body (cfg2.bodyArgs t (cfg2.slots t)) = bodyAt2 t := by
  rfl

theorem body (c : Dev nD) : BodyObligation (dat (F := F) V c) (defs₀ (F := F)) Variants.none (none : HIx 1) Set.univ := fun t => by
  rw [bigSep_W2, bigSep_W2, body_row]
  exact triple_restated (sound V c t) rfl .rfl fun _ => .rfl

end Cert.Proof.Layer
-- ==== Proof.Final.lean ====
/-
  The last call: over 8 blocks of 1024 groups it puts the second layer's normalisation on each group's largest or smallest
  value, by the sign of the factor, and cuts it off at zero.
-/
module

public import proofs.«01_k».proof.Proof.Keep

@[expose] public section

noncomputable section

namespace Cert.Proof.Final

open Cert.KernelIdeal Cert.KernelIdeal.Gen
open Cert.Proof.Rows (UU)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Pipeline

variable {F : FTy → Type} [FloatOps F]

local notation "𝕄" => MT nD τ sig (HIx 1) (Elt F) ℕ UU ℕ

/-- The sums' and the squares' rows of a two-row vector. -/
def row0 (s : Vec F S2x128 .f32) : Vec F S1x128 .f32 := fun y => s ((Rect.unit (s := S2x128) ![0, 0] S1x128.size inb_S2x128_S1x128_0_0).toLoadRect.idx y)
def row1 (s : Vec F S2x128 .f32) : Vec F S1x128 .f32 := fun y => s ((Rect.unit (s := S2x128) ![1, 0] S1x128.size inb_S2x128_S1x128_1_0).toLoadRect.idx y)

/-- The block it writes, from its five inputs. -/
def outOf (x1 : Vec F S1024x128 .f32) (x2 : Vec F S1024x128 .f32) (x3 : Vec F S2x128 .f32) (x4 : Vec F S1x128 .f32) (x5 : Vec F S1x128 .f32) : Vec F S1024x128 .f32 := k3_pay1 (row0 x3) (row1 x3) x4 x5 x1 x2

set_option maxHeartbeats 1000000 in
set_option maxRecDepth 16384 in
theorem run (c : Dev nD) (i : grid3.Coords) (a1 : Memref sig .tc .vmem S1024x128 .f32) (h1 : a1.IsWhole) (a2 : Memref sig .tc .vmem S1024x128 .f32) (h2 : a2.IsWhole) (a3 : Memref sig .tc .vmem S2x128 .f32) (h3 : a3.IsWhole) (a4 : Memref sig .tc .vmem S1x128 .f32) (h4 : a4.IsWhole) (a5 : Memref sig .tc .vmem S1x128 .f32) (h5 : a5.IsWhole) (a6 : Memref sig .tc .vmem S1024x128 .f32) (h6 : a6.IsWhole)
    (x1 : Vec F S1024x128 .f32) (x2 : Vec F S1024x128 .f32) (x3 : Vec F S2x128 .f32) (x4 : Vec F S1x128 .f32) (x5 : Vec F S1x128 .f32) (Q : PUnit → sProp 𝕄) :
    iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ (∃ d, owns (c : Thread nD τ) a6 fullShare d)
        ∗ (iprop(owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5
        ∗ owns (c : Thread nD τ) a6 fullShare (outOf x1 x2 x3 x4 x5)) -∗ Q ⟨⟩))
      ⊢ wp frame (wpE (defs₀ (F := F)) Variants.none c none) Set.univ (cc3__final_kernel i a1 h1 a2 h2 a3 h3 a4 h4 a5 h5 a6 h6) Q := by
  simp only [cc3__final_kernel_eq_skeleton]; unfold cc3__final_kernel_skel
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  obtain rfl := h1.eq_unread e1
  obtain rfl := h2.eq_unread e2
  obtain rfl := h3.eq_unread e3
  obtain rfl := h4.eq_unread e4
  obtain rfl := h5.eq_unread e5
  have r0 : View.readAt (Elt F) a3.view (Rect.unit (s := S2x128) ![0, 0] S1x128.size inb_S2x128_S1x128_0_0).toLoadRect (h3.unread x3) = row0 x3 := funext fun y => congrFun e3 _
  have r1 : View.readAt (Elt F) a3.view (Rect.unit (s := S2x128) ![1, 0] S1x128.size inb_S2x128_S1x128_1_0).toLoadRect (h3.unread x3) = row1 x3 := funext fun y => congrFun e3 _
  sl_exec
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  iexists _; isplitr
  swap; · iexact H6
  ipureintro
  refine (View.read_writes_full ..).trans ?_
  unfold outOf
  rw [View.readAt_full, View.readAt_full, View.readAt_full, View.readAt_full, e1, e2, e4, e5]

variable (V : (c : Dev nD) → (b : Ref sig .tc) → Buf (Elt F) ((c : Thread nD τ).loc b))

/-- Window `w`'s block at point `t`, read off its array as the call finds it. -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The block point `t` writes. -/
def out (c : Dev nD) (t : Fin cfg3.N) : Vec F S1024x128 .f32 := outOf (F := F) (blk V c 0 t) (blk V c 1 t) (blk V c 2 t) (blk V c 3 t) (blk V c 4 t)

/-- The call's proof data: its arrays as found, each input's buffer at its block, the outputs' as told above. -/
def dat (c : Dev nD) : Dat τ (Elt F) (HIx 1) ℕ UU ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out V c t
  Φ _ := keep spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = out V c t := by dsimp only [dat]

/-- An input's buffer holds its block when the body starts, whether or not it was fetched at this point. -/
theorem before_0 (c : Dev nD) (t : Fin cfg3.N) (d) : (dat V c).before 0 t d = blk V c 0 t :=
  ((dat V c).before_in_eq_fetched 0 rfl (fun _ => rfl) (fun _ _ _ => rfl) (fun t => by rw [after_0]; unfold Dat.blockOf blk; rw [A_eq]) t d).trans
    (by unfold Dat.fetched Dat.blockOf blk; rw [A_eq]; rfl)
theorem before_1 (c : Dev nD) (t : Fin cfg3.N) (d) : (dat V c).before 1 t d = blk V c 1 t :=
  ((dat V c).before_in_eq_fetched 1 rfl (fun _ => rfl) (fun _ _ _ => rfl) (fun t => by rw [after_1]; unfold Dat.blockOf blk; rw [A_eq]) t d).trans
    (by unfold Dat.fetched Dat.blockOf blk; rw [A_eq]; rfl)
theorem before_2 (c : Dev nD) (t : Fin cfg3.N) (d) : (dat V c).before 2 t d = blk V c 2 t :=
  ((dat V c).before_in_eq_fetched 2 rfl (fun _ => rfl) (fun _ _ _ => rfl) (fun t => by rw [after_2]; unfold Dat.blockOf blk; rw [A_eq]) t d).trans
    (by unfold Dat.fetched Dat.blockOf blk; rw [A_eq]; rfl)
theorem before_3 (c : Dev nD) (t : Fin cfg3.N) (d) : (dat V c).before 3 t d = blk V c 3 t :=
  ((dat V c).before_in_eq_fetched 3 rfl (fun _ => rfl) (fun _ _ _ => rfl) (fun t => by rw [after_3]; unfold Dat.blockOf blk; rw [A_eq]) t d).trans
    (by unfold Dat.fetched Dat.blockOf blk; rw [A_eq]; rfl)
theorem before_4 (c : Dev nD) (t : Fin cfg3.N) (d) : (dat V c).before 4 t d = blk V c 4 t :=
  ((dat V c).before_in_eq_fetched 4 rfl (fun _ => rfl) (fun _ _ _ => rfl) (fun t => by rw [after_4]; unfold Dat.blockOf blk; rw [A_eq]) t d).trans
    (by unfold Dat.fetched Dat.blockOf blk; rw [A_eq]; rfl)

/-- The body at a point, between the windows' buffers before and after. -/
theorem sound (c : Dev nD) (t : Fin cfg3.N) :
    iprop((dat V c).Φ t.castSucc ∗ (dat V c).owesAt (none : HIx 1) t.castSucc
        ∗ (∃ d, owns (c : Thread nD τ) (st3_0 t) fullShare ((dat V c).before 0 t d))
        ∗ (∃ d, owns (c : Thread nD τ) (st3_1 t) fullShare ((dat V c).before 1 t d))
        ∗ (∃ d, owns (c : Thread nD τ) (st3_2 t) fullShare ((dat V c).before 2 t d))
        ∗ (∃ d, owns (c : Thread nD τ) (st3_3 t) fullShare ((dat V c).before 3 t d))
        ∗ (∃ d, owns (c : Thread nD τ) (st3_4 t) fullShare ((dat V c).before 4 t d))
        ∗ (∃ d, owns (c : Thread nD τ) (st3_5 t) fullShare ((dat V c).before 5 t d)))
      ⊢ wp frame (wpE (defs₀ (F := F)) Variants.none c none) Set.univ (bodyAt3 t) fun _ =>
        iprop((dat V c).Φ t.succ ∗ (dat V c).owesAt (none : HIx 1) t.succ
          ∗ owns (c : Thread nD τ) (st3_0 t) fullShare ((dat V c).after 0 t)
          ∗ owns (c : Thread nD τ) (st3_1 t) fullShare ((dat V c).after 1 t)
          ∗ owns (c : Thread nD τ) (st3_2 t) fullShare ((dat V c).after 2 t)
          ∗ owns (c : Thread nD τ) (st3_3 t) fullShare ((dat V c).after 3 t)
          ∗ owns (c : Thread nD τ) (st3_4 t) fullShare ((dat V c).after 4 t)
          ∗ owns (c : Thread nD τ) (st3_5 t) fullShare ((dat V c).after 5 t)) := by
  unfold bodyAt3
  simp only [before_0, before_1, before_2, before_3, before_4]
  rw [show (dat V c).Φ t.succ = (dat V c).Φ t.castSucc from rfl, show (dat V c).owesAt (none : HIx 1) t.succ = (dat V c).owesAt (none : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (run c (grid3.coords t) _ _ _ _ _ _ _ _ _ _ _ _ (blk V c 0 t) (blk V c 1 t) (blk V c 2 t) (blk V c 3 t) (blk V c 4 t) _)
  isplitl [H0]; · iexact H0
  isplitl [H1]; · iexact H1
  isplitl [H2]; · iexact H2
  isplitl [H3]; · iexact H3
  isplitl [H4]; · iexact H4
  isplitl [H5]; · iexists _; iexact H5
  iintro H
  isplitl [HΦ]; · iexact HΦ
  isplitl [Ho]; · iexact Ho
  iexact H

theorem body_row (t : Fin cfg3.N) : defs₀ (F := F) .tc cfg3.body (cfg3.bodyArgs t (cfg3.slots t)) = bodyAt3 t := by
  rfl

theorem body (c : Dev nD) : BodyObligation (dat (F := F) V c) (defs₀ (F := F)) Variants.none (none : HIx 1) Set.univ := fun t => by
  rw [bigSep_W3, bigSep_W3, body_row]
  exact triple_restated (sound V c t) rfl .rfl fun _ => .rfl

end Cert.Proof.Final
-- ==== Proof.Regs.lean ====
/-
  A tensor-core call in @main, run once for all three: from the core's unscoped buffers at some contents, and the ghost
  state of its pipeline, to the same buffers with the call's arrays at what its write-backs leave.
-/
module

public import proofs.«01_k».proof.Proof.Stats1
public import proofs.«01_k».proof.Proof.Layer2
public import proofs.«01_k».proof.Proof.Final

@[expose] public section

noncomputable section

namespace Cert.Proof.Regs

open Cert.KernelIdeal Cert.KernelIdeal.Gen
open Cert.Proof.Rows (UU ΛP EP)

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Pipeline
open Idealize.ShloMosaic.StableHlo (held)

variable {F : FTy → Type} [FloatOps F]

local notation "𝕄" => MT nD τ sig (HIx 1) (Elt F) ℕ UU ℕ

/-- No call has a prefetched table. -/
abbrev adm : (p : Fin 3) → (pcfgs (F := F) p).Adm := fun p => (cfgs p).toPCfg_adm

/-- What each device's buffers hold. -/
abbrev Contents (F : FTy → Type) [FloatOps F] := Dev nD → Valuation τ sig (Elt F)

/-- The same, read at the core's own references. -/
abbrev at_ (W : Contents F) : (c : Dev nD) → (b : Ref sig .tc) → Buf (Elt F) ((c : Thread nD τ).loc b) := fun c b => W c (Proc.devRef .tc b)

/-- The three calls' proof data, all entered from `W`. -/
def dats (W : Contents F) : (p : Fin 3) → (c : Dev nD) → Dat τ (Elt F) (HIx 1) ℕ UU ℕ (Pipeline.pin (pcfgs (F := F)) adm p) c
  | ⟨0, _⟩ => fun c => Stats.dat (at_ W) c
  | ⟨1, _⟩ => fun c => Layer.dat (at_ W) c
  | ⟨2, _⟩ => fun c => Final.dat (at_ W) c

/-- The contents after call `p`: its arrays at what its write-backs leave, everything else as before. -/
def left (W : Contents F) (p : Fin 3) : Contents F := fun c =>
  Pipeline.withArrays (cfgs p).spec c (W c) fun w => (dats W p c).arrAt w (cfgs p).N

theorem launch : ∀ p : Fin 3, Pipeline.LaunchFacts (nD := nD) (τ := τ) cfgs p
  | ⟨0, _⟩ => launch1
  | ⟨1, _⟩ => launch2
  | ⟨2, _⟩ => launch3

theorem left_arr (W : Contents F) (p : Fin 3) (c : Dev nD) (w : Fin (cfgs p).W) :
    left W p c (Proc.devRef .tc (Pipeline.arrRef (cfgs p).spec w)) = (dats W p c).arrAt w (cfgs p).N := by
  unfold left; exact Pipeline.withArrays_arr (cfgs p).spec (launch p).win.arr_inj c _ _ w

theorem left_of_ne (W : Contents F) (p : Fin 3) (c : Dev nD) (b : Ref sig .tc) (hb : ∀ w, Pipeline.arrRef (cfgs p).spec w ≠ b) :
    left W p c (Proc.devRef .tc b) = W c (Proc.devRef .tc b) := by
  unfold left; exact Pipeline.withArrays_of_ne (cfgs p).spec c _ _ b hb

theorem dats_A (W : Contents F) : ∀ (p : Fin 3) (c : Dev nD) (w : Fin (cfgs p).W), (dats W p c).A w = at_ W c (Pipeline.arrRef (cfgs p).spec w)
  | ⟨0, _⟩, c, w => Stats.A_eq (at_ W) c w
  | ⟨1, _⟩, c, w => Layer.A_eq (at_ W) c w
  | ⟨2, _⟩, c, w => Final.A_eq (at_ W) c w

theorem dats_body (W : Contents F) : ∀ (p : Fin 3) (c : Dev nD), BodyObligation (dats W p c) (defs₀ (F := F)) Variants.none (none : HIx 1) Set.univ
  | ⟨0, _⟩, c => Stats.body (at_ W) c
  | ⟨1, _⟩, c => Layer.body (at_ W) c
  | ⟨2, _⟩, c => Final.body (at_ W) c

theorem dats_keep (W : Contents F) : ∀ (p : Fin 3) (c : Dev nD) (t : Fin ((cfgs p).N + 1)), (dats W p c).Φ t = keep (F := F) (cfgs p).spec c
  | ⟨0, _⟩, _, _ => rfl
  | ⟨1, _⟩, _, _ => rfl
  | ⟨2, _⟩, _, _ => rfl

theorem dats_owed (W : Contents F) : ∀ (p : Fin 3) (c : Dev nD) (t : Fin ((cfgs p).N + 1)), (dats W p c).owed t = 0
  | ⟨0, _⟩, _, _ => rfl
  | ⟨1, _⟩, _, _ => rfl
  | ⟨2, _⟩, _, _ => rfl

theorem dats_recorded (W : Contents F) : ∀ (p : Fin 3) (c : Dev nD) (t : Fin ((cfgs p).N + 1)), (dats W p c).recorded t = Set.univ
  | ⟨0, _⟩, _, _ => rfl
  | ⟨1, _⟩, _, _ => rfl
  | ⟨2, _⟩, _, _ => rfl

theorem dats_share (W : Contents F) : ∀ (p : Fin 3) (c : Dev nD) (w : Fin (cfgs p).W), (dats W p c).q w = fullShare
  | ⟨0, _⟩, _, _ => rfl
  | ⟨1, _⟩, _, _ => rfl
  | ⟨2, _⟩, _, _ => rfl

/-- An array that is only read by call `p`, or that is none of its arrays, is left as it was. -/
theorem left_of_in (W : Contents F) (p : Fin 3) (c : Dev nD) (b : Ref sig .tc)
    (hb : ∀ w, Pipeline.arrRef (cfgs p).spec w = b → ((cfgs p).win w).isOut = false) :
    left W p c (Proc.devRef .tc b) = W c (Proc.devRef .tc b) := by
  by_cases hw : ∃ w : Fin (cfgs p).W, Pipeline.arrRef (cfgs p).spec w = b
  · obtain ⟨w, rfl⟩ := hw
    exact (left_arr W p c w).trans (((dats W p c).arrAt_in w (hb w rfl) _).trans (dats_A W p c w))
  · exact left_of_ne W p c b fun w e => hw ⟨w, e⟩

/-- What rides beside the buffers: the generator register at some state, and what the core owes, which is nothing. -/
def beside (c : Dev nD) : sProp 𝕄 :=
  iprop((∃ r, prngReg c r) ∗ ∃ W, owes (c : Thread nD τ) (0 : CellTallies nD τ sig (HIx 1)) W)

abbrev uc : Finset (DevRef τ sig) := Pipeline.ucRefs τ sig

-- the library's lemmas are stated over a pinned configuration, which unification must unfold
set_option backward.isDefEq.respectTransparency.types false in
/-- The call as a region between the two states of the buffers. -/
def seg (W : Contents F) (L : GSem nD τ sig → Finset (HIx 1)) (lv : GSem nD τ sig → HIx 1 → ℕ) (p : Fin 3) :
    Pipeline.RegionSeg (pcfgs (F := F)) adm (dats W) (none : HIx 1) defs₀ Variants.none L lv p where
  win := (launch p).win.to₀
  block_pos := (launch p).block_pos
  stage_whole := (launch p).stage_whole
  K := PEmpty
  osem k := k.elim
  ho := Pipeline.OwnSemFacts.none _
  hbody c := (dats_body W p c).loose
  hwaits := Pipeline.hwaits_of_owed_zero _ _ _ _ L lv p (dats_owed W p)
  pre c := iprop(held (c : Thread nD τ) uc (W c) ∗ beside c)
  post c := iprop(held (c : Thread nD τ) uc (left W p c) ∗ beside c)
  X c := iprop(∃ r, prngReg c r)
  Y c := iprop(∃ r, prngReg c r)
  Z c := Pipeline.unscopedRest (Ix := HIx 1) (Name := ℕ) (U := UU) (Lvl := ℕ) (cfgs p).spec c (at_ W c)
  hentry c := by
    rw [Pipeline.ownSems0_none]
    have hsplit := Pipeline.arrays_of_unscopedBufs (p := p) (pcfgs (F := F)) adm (dats W) (launch p).win (launch p).arr_whole c
      ((dats W p c).share_full (dats_share W p c)) (at_ W c) (dats_A W p c)
    rw [Pipeline.unscopedBufs_held] at hsplit
    unfold beside
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W', HO⟩; iexists W'; isplitr
      · ipureintro; unfold Pipeline.Dat.bound; rw [dats_recorded]; exact fun _ _ => Or.inl trivial
      rw [dats_owed]
      iexact HO
    isplitl [Hp]; · iexact Hp
    iexact Hrest
  hin c := by
    rw [dats_keep]; unfold keep
    iintro ⟨Hp, -, Hr⟩
    isplitl [Hr]; · iexact Hr
    iexact Hp
  hout c := by
    rw [Pipeline.ownSems0_none, dats_keep]; unfold keep
    iintro ⟨Hr, Hp⟩
    isplitl [Hp]; · iexact Hp
    isplitr; · iempintro
    iexact Hr
  hexit c := by
    have hjoin := Pipeline.unscopedBufs_of_arrays (p := p) (pcfgs (F := F)) adm (Ix := HIx 1) (Name := ℕ) (U := UU) (Lvl := ℕ)
      (launch p).win (launch p).arr_whole c (dats W) ((dats W p c).share_full (dats_share W p c))
      (at_ W c) (at_ (left W p) c) ((dats W p c).arrAt · (cfgs p).N) (fun w => (left_arr W p c w).symm)
      (fun b hb => left_of_ne W p c b fun w e => hb (Finset.mem_image.mpr ⟨w, Finset.mem_univ _, e⟩))
    rw [Pipeline.unscopedBufs_held] at hjoin
    unfold beside
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W', -, HO⟩; iexists W'
    rw [dats_owed]
    iexact HO

/-- The ghost state of the three pipelines on a device. -/
def ghosts (c : Dev nD) : sProp 𝕄 :=
  iprop((bigSep Finset.univ fun p : Fin 3 => cellsGhost (Pipeline.pin (pcfgs (F := F)) adm) EP p c)
    ∗ bigSep Finset.univ fun p : Fin 3 => toksInit (Pipeline.pin (pcfgs (F := F)) adm) EP p c)

set_option backward.isDefEq.respectTransparency.types false in
/-- The call in @main: the kernel's call by its number, lifted over the SparseCore call's table of bodies. -/
theorem wp_call (W : Contents F) (p : Fin 3) (c : Dev nD) (lv : GSem nD τ sig → HIx 1 → ℕ) :
    iprop(boundary (c : Thread nD τ) ∗ held (c : Thread nD τ) uc (W c) ∗ beside c ∗ levAts (Rows.K (F := F)).L lv
        ∗ cellsGhost (Pipeline.pin (pcfgs (F := F)) adm) EP p c ∗ toksInit (Pipeline.pin (pcfgs (F := F)) adm) EP p c)
      ⊢ wp frame (wpE ((Rows.K (F := F)).defs Rows.D) Rows.𝒱 (c : Thread nD τ) none) Set.univ
        (Prog.lift (.customCall (SparseCore.inner (Pipeline.entry p)) ()))
        fun _ => iprop(boundary (c : Thread nD τ) ∗ held (c : Thread nD τ) uc (left W p c) ∗ beside (F := F) c) := by
  have h : iprop((iprop(boundary (c : Thread nD τ) ∗ held (c : Thread nD τ) uc (left W p c) ∗ beside (F := F) c)
          -∗ wp frame (wpE (Rows.D (F := F)) Rows.𝒱 (c : Thread nD τ) none) Set.univ (Prog.ret PUnit.unit)
            fun _ => iprop(boundary (c : Thread nD τ) ∗ held (c : Thread nD τ) uc (left W p c) ∗ beside (F := F) c))
        ∗ boundary (c : Thread nD τ) ∗ (held (c : Thread nD τ) uc (W c) ∗ beside c) ∗ levAts (Rows.K (F := F)).L lv
        ∗ cellsGhost (Pipeline.pin (pcfgs (F := F)) adm) EP p c ∗ toksInit (Pipeline.pin (pcfgs (F := F)) adm) EP p c)
      ⊢ wp frame (wpE (Rows.D (F := F)) Rows.𝒱 (c : Thread nD τ) none) Set.univ (.op (.customCall (Pipeline.entry p) ()) fun x => Prog.ret x)
        fun _ => iprop(boundary (c : Thread nD τ) ∗ held (c : Thread nD τ) uc (left W p c) ∗ beside (F := F) c) := Pipeline.RegionSeg.wp (pcfgs (F := F)) adm (dats W) (none : HIx 1) cellOf_inj EP defs₀ Variants.none (Rows.K (F := F)).L lv
    (seg W (Rows.K (F := F)).L lv p) c none (by simp) (k := fun x => Prog.ret x)
    (Q := fun _ => iprop(boundary (c : Thread nD τ) ∗ held (c : Thread nD τ) uc (left W p c) ∗ beside (F := F) c))
  have e := h.trans ((Rows.K (F := F)).wp_liftProg Rows.D Rows.𝒱 (c : Thread nD τ) Set.univ none _ _)
  iintro ⟨Hb, Hh, Hs, Hl, Hg, Ht⟩
  iapply e
  isplitr
  · iintro H
    rw [wp_ret]
    imodintro
    iexact H
  isplitl [Hb]; · iexact Hb
  isplitl [Hh Hs]
  · isplitl [Hh]; · iexact Hh
    iexact Hs
  isplitl [Hl]; · iexact Hl
  isplitl [Hg]; · iexact Hg
  iexact Ht

end Cert.Proof.Regs
-- ==== Proof.Launch.lean ====
/-
  @main from the launch memory to its end: the host operations, the gather, the three tensor-core calls one after the
  other, and the operations that lay out the last result. The TensorCore holds every array of the device at a valuation
  throughout; each step says which arrays it changes.
-/
module

public import proofs.«01_k».proof.Proof.Gather
public import proofs.«01_k».proof.Proof.Regs

@[expose] public section

noncomputable section

namespace Cert.Proof.Rows

open Cert.KernelIdeal Cert.KernelIdeal.Gen Cert.Proof.Regs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type}

local notation "𝕄" => MT nD τ sig (HIx 1) (Elt F) ℕ UU ℕ

variable [FloatOps F]

/-- Three pieces side by side. -/
theorem bigSep_three (Φ : Fin 3 → sProp 𝕄) : bigSep Finset.univ Φ = iprop(Φ 0 ∗ Φ 1 ∗ Φ 2) := by
  rw [show (Finset.univ : Finset (Fin 3)) = {0, 1, 2} from by decide, SparseCore.bigSep_insert' (by decide), SparseCore.bigSep_insert' (by decide), bigSep_singleton]

/-- `Regs.wp_call` with what follows it. -/
theorem wp_step (W : Contents F) (p : Fin 3) (c : Dev nD) (lv : GSem nD τ sig → HIx 1 → ℕ) {Φ : PUnit → sProp 𝕄} :
    iprop(boundary (c.tc : Thread nD τ) ∗ held (c.tc : Thread nD τ) (Pipeline.ucRefs τ sig) (W c) ∗ beside c ∗ levAts (K (F := F)).L lv
        ∗ Pipeline.cellsGhost (Pipeline.pin (pcfgs (F := F)) adm) EP p c ∗ Pipeline.toksInit (Pipeline.pin (pcfgs (F := F)) adm) EP p c
        ∗ ((boundary (c.tc : Thread nD τ) ∗ held (c.tc : Thread nD τ) (Pipeline.ucRefs τ sig) (left W p c) ∗ beside c) -∗ Φ ⟨⟩))
      ⊢ wp frame (wpE ((K (F := F)).defs D) 𝒱 (SparseCore.T c) none) Set.univ
        (Prog.lift (.customCall (SparseCore.inner (Pipeline.entry p)) ())) Φ := by
  iintro ⟨Hb, Hh, Hs, Hl, Hg, Ht, Hk⟩
  iapply (wp_wand frame (wpE ((K (F := F)).defs D) 𝒱 (SparseCore.T c) none) Set.univ) $$ [Hb Hh Hs Hl Hg Ht]
  · iapply (wp_call W p c lv)
    isplitl [Hb]; · iexact Hb
    isplitl [Hh]; · iexact Hh
    isplitl [Hs]; · iexact Hs
    isplitl [Hl]; · iexact Hl
    isplitl [Hg]; · iexact Hg
    iexact Ht
  iintro %_ H
  iapply Hk
  iexact H

/-! ## @main on the TensorCore -/

/-- Evenly spaced positions: all but the last, and the last. -/
def joined : (⟨S2047, .f32⟩ : BufTy).Contents (Elt F) → (⟨S1, .f32⟩ : BufTy).Contents (Elt F) → (⟨S2048, .f32⟩ : BufTy).Contents (Elt F) :=
  fun a b => concatenate S2048 0 [⟨S2047, a⟩, ⟨S1, b⟩] concatenates_S2047_S1_S2048_d0

/-- The operations that take the centres: evenly spaced positions, and the points at them. -/
abbrev centerOps : List (HloOp τ sig (Elt F)) :=
  [ nullary main_cst (constant S_ .f32 0x00000000#32),
    nullary main_cst_0 (constant S_ .f32 0x45FFF800#32),
    TRef.unary (.of main_cst) main_call0.v0 id,
    TRef.unary (.of main_cst_0) main_call0.v1 id,
    TRef.binary main_call0.v1 main_call0.v0 main_call0.v2 subf,
    TRef.nullary main_call0.cst (constant S_ .f32 0x44FFE000#32),
    TRef.binary main_call0.v2 main_call0.cst main_call0.v3 Host.divf,
    TRef.nullary main_call0.v4 (sitofp .f32 (iotaInDim S2047 32 0)),
    TRef.nullary main_call0.cst_0 (constant S_ .f32 0x44FFE000#32),
    TRef.unary main_call0.cst_0 main_call0.v5 (broadcastInDim S2047 ![] bcast_S_S2047),
    TRef.binary main_call0.v4 main_call0.v5 main_call0.v6 Host.divf,
    TRef.reshape main_call0.v0 main_call0.v7 (rfl : (.f32 : EltTy) = .f32) shapeCasts_S_S1,
    TRef.nullary main_call0.cst_1 (constant S_ .f32 0x3F800000#32),
    TRef.unary main_call0.cst_1 main_call0.v8 (broadcastInDim S2047 ![] bcast_S_S2047),
    TRef.binary main_call0.v8 main_call0.v6 main_call0.v9 subf,
    TRef.unary main_call0.v7 main_call0.v10 (broadcastInDim S2047 ![0] bcast_S1_S2047_0),
    TRef.binary main_call0.v10 main_call0.v9 main_call0.v11 mulf,
    TRef.reshape main_call0.v1 main_call0.v12 (rfl : (.f32 : EltTy) = .f32) shapeCasts_S_S1,
    TRef.unary main_call0.v12 main_call0.v13 (broadcastInDim S2047 ![0] bcast_S1_S2047_0),
    TRef.binary main_call0.v13 main_call0.v6 main_call0.v14 mulf,
    TRef.binary main_call0.v11 main_call0.v14 main_call0.v15 addf,
    TRef.unary main_call0.v1 main_call0.v16 (broadcastInDim S1 ![] bcast_S_S1),
    TRef.binary main_call0.v15 main_call0.v16 main_call0.v17 joined,
    unary main_v0 main_v1 (fptosi 32 : (⟨S2048, .f32⟩ : BufTy).Contents (Elt F) → (⟨S2048, .i32⟩ : BufTy).Contents (Elt F)),
    nullary main_c (constantI S_ 32 0#32),
    unary main_c main_v2 (broadcastInDim S2048 ![] bcast_S_S2048 : (⟨S_, .i32⟩ : BufTy).Contents (Elt F) → (⟨S2048, .i32⟩ : BufTy).Contents (Elt F)),
    binary main_v1 main_v2 main_v3 (cmpi .slt : (⟨S2048, .i32⟩ : BufTy).Contents (Elt F) → (⟨S2048, .i32⟩ : BufTy).Contents (Elt F) → (⟨S2048, .i1⟩ : BufTy).Contents (Elt F)),
    nullary main_c_1 (constantI S_ 32 8192#32),
    unary main_c_1 main_v4 (broadcastInDim S2048 ![] bcast_S_S2048 : (⟨S_, .i32⟩ : BufTy).Contents (Elt F) → (⟨S2048, .i32⟩ : BufTy).Contents (Elt F)),
    binary main_v1 main_v4 main_v5 (addi : (⟨S2048, .i32⟩ : BufTy).Contents (Elt F) → (⟨S2048, .i32⟩ : BufTy).Contents (Elt F) → (⟨S2048, .i32⟩ : BufTy).Contents (Elt F)),
    ternary main_v3 main_v5 main_v1 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v7 (broadcastInDim S2048x1 ![0] bcast_S2048_S2048x1_0 : (⟨S2048, .i32⟩ : BufTy).Contents (Elt F) → (⟨S2048x1, .i32⟩ : BufTy).Contents (Elt F)),
    binary main_arg0 main_v7 main_v8 ((fun x i => Host.gather gather_S4x8192x3_S2048x1_S4x2048x3_02_1_n_n_1_1_413 x i) : (⟨S4x8192x3, .f32⟩ : BufTy).Contents (Elt F) → (⟨S2048x1, .i32⟩ : BufTy).Contents (Elt F) → (⟨S4x2048x3, .f32⟩ : BufTy).Contents (Elt F)) ]

/-- The operations that lay out the table of rows and the list of row numbers. -/
abbrev tableOps : List (HloOp τ sig (Elt F)) :=
  [ unary main_arg2 main_v9 ((transpose S4x2048x32 [0, 2, 1] · transposes_S4x32x2048_S4x2048x32_0_2_1) : (⟨S4x32x2048, .i32⟩ : BufTy).Contents (Elt F) → (⟨S4x2048x32, .i32⟩ : BufTy).Contents (Elt F)),
    unary main_arg1 main_v10 ((transpose S4x8192x64 [0, 2, 1] · transposes_S4x64x8192_S4x8192x64_0_2_1) : (⟨S4x64x8192, .f32⟩ : BufTy).Contents (Elt F) → (⟨S4x8192x64, .f32⟩ : BufTy).Contents (Elt F)),
    nullary main_cst_2 (constant S_ .f32 0x00000000#32),
    unary main_cst_2 main_v11 (broadcastInDim S4x8192x61 ![] bcast_S_S4x8192x61 : (⟨S_, .f32⟩ : BufTy).Contents (Elt F) → (⟨S4x8192x61, .f32⟩ : BufTy).Contents (Elt F)),
    nary ![main_v10, main_arg0, main_v11] main_v12 (fun u => (concatenate S4x8192x128 2 [⟨S4x8192x64, (u 0 : (⟨S4x8192x64, .f32⟩ : BufTy).Contents (Elt F))⟩, ⟨S4x8192x3, (u 1 : (⟨S4x8192x3, .f32⟩ : BufTy).Contents (Elt F))⟩, ⟨S4x8192x61, (u 2 : (⟨S4x8192x61, .f32⟩ : BufTy).Contents (Elt F))⟩] concatenates_S4x8192x64_S4x8192x3_S4x8192x61_S4x8192x128_d2 : (⟨S4x8192x128, .f32⟩ : BufTy).Contents (Elt F))),
    reshape main_v12 main_v13 (rfl : (.f32 : EltTy) = .f32) shapeCasts_S4x8192x128_S32768x128,
    reshape main_v9 main_v14 (rfl : (.i32 : EltTy) = .i32) shapeCasts_S4x2048x32_S262144 ]

/-- The operations between the gather and the first tensor-core call: the weights cut and padded, the vectors as rows, each centre repeated for its neighbours. -/
abbrev midOps : List (HloOp τ sig (Elt F)) :=
  [ unary main_arg3 main_v16 ((extractStridedSlice S64x64 ![0, 3] · slices_S64x67_S64x64_0_3) : (⟨S64x67, .f32⟩ : BufTy).Contents (Elt F) → (⟨S64x64, .f32⟩ : BufTy).Contents (Elt F)),
    unary main_v16 main_v17 ((transpose S64x64 [1, 0] · transposes_S64x64_S64x64_1_0) : (⟨S64x64, .f32⟩ : BufTy).Contents (Elt F) → (⟨S64x64, .f32⟩ : BufTy).Contents (Elt F)),
    unary main_arg3 main_v18 ((extractStridedSlice S64x3 ![0, 0] · slices_S64x67_S64x3_0_0) : (⟨S64x67, .f32⟩ : BufTy).Contents (Elt F) → (⟨S64x3, .f32⟩ : BufTy).Contents (Elt F)),
    unary main_v18 main_v19 ((transpose S3x64 [1, 0] · transposes_S64x3_S3x64_1_0) : (⟨S64x3, .f32⟩ : BufTy).Contents (Elt F) → (⟨S3x64, .f32⟩ : BufTy).Contents (Elt F)),
    nullary main_cst_3 (constant S_ .f32 0x00000000#32),
    unary main_cst_3 main_v20 (broadcastInDim S61x64 ![] bcast_S_S61x64 : (⟨S_, .f32⟩ : BufTy).Contents (Elt F) → (⟨S61x64, .f32⟩ : BufTy).Contents (Elt F)),
    nary ![main_v17, main_v19, main_v20] main_v21 (fun u => (concatenate S128x64 0 [⟨S64x64, (u 0 : (⟨S64x64, .f32⟩ : BufTy).Contents (Elt F))⟩, ⟨S3x64, (u 1 : (⟨S3x64, .f32⟩ : BufTy).Contents (Elt F))⟩, ⟨S61x64, (u 2 : (⟨S61x64, .f32⟩ : BufTy).Contents (Elt F))⟩] concatenates_S64x64_S3x64_S61x64_S128x64_d0 : (⟨S128x64, .f32⟩ : BufTy).Contents (Elt F))),
    unary main_arg3 main_v22 ((extractStridedSlice S64x3 ![0, 0] · slices_S64x67_S64x3_0_0) : (⟨S64x67, .f32⟩ : BufTy).Contents (Elt F) → (⟨S64x3, .f32⟩ : BufTy).Contents (Elt F)),
    unary main_v22 main_v23 ((transpose S3x64 [1, 0] · transposes_S64x3_S3x64_1_0) : (⟨S64x3, .f32⟩ : BufTy).Contents (Elt F) → (⟨S3x64, .f32⟩ : BufTy).Contents (Elt F)),
    unary main_arg7 main_v24 ((transpose S64x128 [1, 0] · transposes_S128x64_S64x128_1_0) : (⟨S128x64, .f32⟩ : BufTy).Contents (Elt F) → (⟨S64x128, .f32⟩ : BufTy).Contents (Elt F)),
    reshape main_arg4 main_v25 (rfl : (.f32 : EltTy) = .f32) shapeCasts_S64_S1x64,
    reshape main_arg5 main_v26 (rfl : (.f32 : EltTy) = .f32) shapeCasts_S64_S1x64,
    reshape main_arg6 main_v27 (rfl : (.f32 : EltTy) = .f32) shapeCasts_S64_S1x64,
    reshape main_arg8 main_v28 (rfl : (.f32 : EltTy) = .f32) shapeCasts_S128_S1x128,
    reshape main_arg9 main_v29 (rfl : (.f32 : EltTy) = .f32) shapeCasts_S128_S1x128,
    reshape main_arg10 main_v30 (rfl : (.f32 : EltTy) = .f32) shapeCasts_S128_S1x128,
    reshape main_v8 main_v31 (rfl : (.f32 : EltTy) = .f32) shapeCasts_S4x2048x3_S8192x3,
    unary main_v31 main_v32 (broadcastInDim S8192x32x3 ![0, 2] bcast_S8192x3_S8192x32x3_0_2 : (⟨S8192x3, .f32⟩ : BufTy).Contents (Elt F) → (⟨S8192x32x3, .f32⟩ : BufTy).Contents (Elt F)),
    reshape main_v32 main_v33 (rfl : (.f32 : EltTy) = .f32) shapeCasts_S8192x32x3_S262144x3 ]

/-- The operations after the last call. -/
abbrev endOps : List (HloOp τ sig (Elt F)) :=
  [ reshape main_v36 main_v37 (rfl : (.f32 : EltTy) = .f32) shapeCasts_S8192x128_S4x2048x128,
    unary main_v37 main_v38 ((transpose S4x128x2048 [0, 2, 1] · transposes_S4x2048x128_S4x128x2048_0_2_1) : (⟨S4x2048x128, .f32⟩ : BufTy).Contents (Elt F) → (⟨S4x128x2048, .f32⟩ : BufTy).Contents (Elt F)) ]

set_option maxRecDepth 16384 in
theorem centerOps_sub : (centerOps : List (HloOp τ sig (Elt F))).Forall fun op => op.bufs ⊆ tcRefs τ sig :=
  ⟨nullary_bufs_sub .., nullary_bufs_sub .., unary_bufs_sub .., unary_bufs_sub .., binary_bufs_sub .., nullary_bufs_sub .., binary_bufs_sub .., nullary_bufs_sub .., nullary_bufs_sub .., unary_bufs_sub .., binary_bufs_sub .., reshape_bufs_sub .., nullary_bufs_sub .., unary_bufs_sub .., binary_bufs_sub .., unary_bufs_sub .., binary_bufs_sub .., reshape_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 16384 in
theorem centerOps_fresh : ∀ op ∈ (centerOps : List (HloOp τ sig (Elt F))), op.fresh = ∅ := by
  intro _ h; (repeat (cases h with | head => rfl | tail _ h => ?_)); exact nomatch h

set_option maxRecDepth 16384 in
theorem tableOps_sub : (tableOps : List (HloOp τ sig (Elt F))).Forall fun op => op.bufs ⊆ tcRefs τ sig :=
  ⟨unary_bufs_sub .., unary_bufs_sub .., nullary_bufs_sub .., unary_bufs_sub .., nary_bufs_sub .., reshape_bufs_sub .., reshape_bufs_sub ..⟩

set_option maxRecDepth 16384 in
theorem tableOps_fresh : ∀ op ∈ (tableOps : List (HloOp τ sig (Elt F))), op.fresh = ∅ := by
  intro _ h; (repeat (cases h with | head => rfl | tail _ h => ?_)); exact nomatch h

set_option maxRecDepth 16384 in
theorem midOps_sub : (midOps : List (HloOp τ sig (Elt F))).Forall fun op => op.bufs ⊆ tcRefs τ sig :=
  ⟨unary_bufs_sub .., unary_bufs_sub .., unary_bufs_sub .., unary_bufs_sub .., nullary_bufs_sub .., unary_bufs_sub .., nary_bufs_sub .., unary_bufs_sub .., unary_bufs_sub .., unary_bufs_sub .., reshape_bufs_sub .., reshape_bufs_sub .., reshape_bufs_sub .., reshape_bufs_sub .., reshape_bufs_sub .., reshape_bufs_sub .., reshape_bufs_sub .., unary_bufs_sub .., reshape_bufs_sub ..⟩

set_option maxRecDepth 16384 in
theorem midOps_fresh : ∀ op ∈ (midOps : List (HloOp τ sig (Elt F))), op.fresh = ∅ := by
  intro _ h; (repeat (cases h with | head => rfl | tail _ h => ?_)); exact nomatch h

set_option maxRecDepth 16384 in
theorem endOps_sub : (endOps : List (HloOp τ sig (Elt F))).Forall fun op => op.bufs ⊆ tcRefs τ sig :=
  ⟨reshape_bufs_sub .., unary_bufs_sub ..⟩

set_option maxRecDepth 16384 in
theorem endOps_fresh : ∀ op ∈ (endOps : List (HloOp τ sig (Elt F))), op.fresh = ∅ := by
  intro _ h; (repeat (cases h with | head => rfl | tail _ h => ?_)); exact nomatch h

set_option maxRecDepth 16384 in
set_option maxHeartbeats 4000000 in
theorem main_eq (d : Dev nD) : main (F := F) d = seq centerOps >>= fun _ => (seq tableOps >>= fun _ => ((K (F := F)).run d 0 >>= fun _ =>
    (seq midOps >>= fun _ => (Prog.lift (.customCall (SparseCore.inner (Pipeline.entry 0)) ()) >>= fun _ =>
      (Prog.lift (.customCall (SparseCore.inner (Pipeline.entry 1)) ()) >>= fun _ =>
        (Prog.lift (.customCall (SparseCore.inner (Pipeline.entry 2)) ()) >>= fun _ => (seq endOps >>= fun _ => pure ⟨⟩))))))) := rfl

/-! ## The launch element of the ghost state -/

theorem emps {I : Type} (s : Finset I) : (bigSep s fun _ => iprop(emp)) = (iprop(emp) : sProp 𝕄) := bigSep_emp_const s

def u₀ : UU := (initOf (K (F := F)).hsCells (K (F := F)).hsToks,
  (initOf (Pipeline.cells (nD := nD) (Pipeline.pin (pcfgs (F := F)) adm) cellOf_inj) (Pipeline.launchToks (Pipeline.pin (pcfgs (F := F)) adm) cellOf_inj), 1))

section Ghost

variable (tab : (d : Dev nD) → Buf (Elt F) (tLoc d)) (ix : (d : Dev nD) → Buf (Elt F) (iLoc d)) (o₀ : (d : Dev nD) → Buf (Elt F) (oLoc d))

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P tab ix o₀).x q thr) := by
  unfold u₀
  iintro Hu
  ihave H := (ownU_pair (initOf (K (F := F)).hsCells (K (F := F)).hsToks) _) $$ Hu
  icases H with ⟨HH, HR⟩
  ihave H := (own_pair_emb embR _ _) $$ HR
  icases H with ⟨HP, -⟩
  ihave H := (Pipeline.fund_ghost (Pipeline.pin (pcfgs (F := F)) adm) EP cellOf_inj) $$ HP
  imod H
  icases H with ⟨Hc, Ht⟩
  imodintro
  isplitl [HH]; · iexact HH
  isplitl [Hc Ht]
  · unfold ghosts
    rw [bigSep_sep']
    isplitl [Hc] <;> iassumption
  rw [show (bigSep Finset.univ fun thr : Thread nD τ => bigSep Finset.univ fun q : Fin 1 => (P (F := F) tab ix o₀).x q thr) = bigSep Finset.univ fun _ => iprop(emp) from
    bigSep_congr fun _ _ => bigSep_univ_of_subsingleton (0 : Fin 1), emps]
  iempintro

end Ghost

/-! ## The run -/

section Main

variable (m : (ℓ : Loc nD τ sig) → Buf (Elt F) ℓ) (ρ : Dev nD → PrngReg)

/-- The arrays of a device when the gather starts, -/
abbrev W₁ : Contents F := fun d => after tableOps (after centerOps (launchContents m d))
/-- when the first tensor-core call starts, -/
abbrev W₃ : Contents F := fun d => after midOps (atCall (W₁ m d))
/-- after the first, the second and the third, -/
abbrev W₄ : Contents F := left (W₃ m) 0
abbrev W₅ : Contents F := left (W₄ m) 1
abbrev W₆ : Contents F := left (W₅ m) 2
/-- and at the end. -/
abbrev W₇ : Contents F := fun d => after endOps (W₆ m d)

abbrev PM : (K (F := F)).Pay (nD := nD) (Val := Elt F) (Name := ℕ) (U := UU) :=
  P (fun d => W₁ m d (Proc.devRef .tc main_v13)) (fun d => W₁ m d (Proc.devRef .tc main_v14)) (fun d => W₁ m d (Proc.devRef .tc main_v15))

abbrev FIN (d : Dev nD) : sProp 𝕄 := held (d.tc : Thread nD τ) (Pipeline.ucRefs τ sig) (W₇ m d)

theorem otc_one (d : Dev nD) : (K (F := F)).Otc d 1 = 0 := by
  unfold SparseCore.Cfg.Otc
  exact Finset.sum_eq_zero fun q _ => if_neg (by omega)

theorem below_one (d : Dev nD) (W : Waits sig (HIx 1)) : (K (F := F)).WBelow (SparseCore.T d) W 8 := by
  rintro ⟨sm, ι⟩ _
  match ι with
  | none => exact Nat.zero_le _
  | some q =>
    have h6 : (K (F := F)).place ((SparseCore.T d : Thread nD τ), sm) = 6 := rfl
    have := q.isLt
    show 8 * q.val + (K (F := F)).place ((SparseCore.T d : Thread nD τ), sm) + 1 ≤ 8
    omega

/-- After the gather the core owes nothing, so what it has waited for can be handed to a call and taken back. -/
theorem tcSt_one (d : Dev nD) :
    ((K (F := F)).tcSt EH d 1 : sProp 𝕄) ⊢ (iprop((∃ W, owes (SparseCore.T d) (0 : CellTallies nD τ sig (HIx 1)) W)
      ∗ ((∃ W, owes (SparseCore.T d) (0 : CellTallies nD τ sig (HIx 1)) W) -∗ (K (F := F)).tcSt EH d 1)) : sProp 𝕄) := by
  unfold SparseCore.Cfg.tcSt
  rw [otc_one]
  iintro ⟨⟨%W, -, HO⟩, H⟩
  isplitl [HO]; · iexists W; iexact HO
  iintro ⟨%W', HO⟩
  isplitl [HO]
  · iexists W'; isplitr; · ipureintro; exact below_one d W'
    iexact HO
  iexact H

theorem ops_sub {ops : List (HloOp τ sig (Elt F))} (h : ops.Forall fun op => op.bufs ⊆ tcRefs τ sig) : ∀ op ∈ ops, op.bufs ⊆ Pipeline.ucRefs τ sig :=
  fun op ho => Pipeline.sub_ucRefs op (List.forall_iff_forall_mem.1 h op ho)

set_option maxRecDepth 16384 in
/-- @main on device `d`'s TensorCore, from the launch memory to the arrays at `W₇`. -/
theorem hmain (κ : GSem nD τ sig → ℕ) (d : Dev nD) :
    iprop((K (F := F)).ctx EH (PM m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (Pipeline.ucRefs τ sig) (launchContents m d) from
    Pipeline.unscopedBufs_held d (launchContents m d), main_eq]
  unfold ghosts
  rw [bigSep_three, bigSep_three]
  iintro ⟨#Hctx, Hst, ⟨Hb, Hbufs, Hts, Hp⟩, ⟨Hc0, Hc1, Hc2⟩, Ht0, Ht1, Ht2⟩
  ihave #Hlv := (SparseCore.Cfg.ctx_levAts κ) $$ Hctx
  iapply (wp_seq 𝒱 none Set.univ d (Pipeline.ucRefs τ sig) _ centerOps (ops_sub centerOps_sub) centerOps_fresh (launchContents m d)) $$ [Hb Hbufs]
  · isplitl [Hb] <;> iassumption
  iintro ⟨Hb, Hbufs⟩
  iapply (wp_seq 𝒱 none Set.univ d (Pipeline.ucRefs τ sig) _ tableOps (ops_sub tableOps_sub) tableOps_fresh _) $$ [Hb Hbufs]
  · isplitl [Hb] <;> iassumption
  iintro ⟨Hb, Hbufs⟩
  rw [wp_bind]
  iapply (wp_gather (F := F) (W₁ m) κ d)
  isplitr; · iexact Hctx
  isplitl [Hst]; · iexact Hst
  isplitl [Hbufs]; · iexact Hbufs
  iintro ⟨Hst, Hbufs⟩
  iapply (wp_seq 𝒱 none Set.univ d (Pipeline.ucRefs τ sig) _ midOps (ops_sub midOps_sub) midOps_fresh (atCall (W₁ m d))) $$ [Hb Hbufs]
  · isplitl [Hb] <;> iassumption
  iintro ⟨Hb, Hbufs⟩
  ihave H := (tcSt_one (F := F) d) $$ Hst
  icases H with ⟨HO, Hst⟩
  ihave Hs := (show iprop((∃ r, prngReg d r) ∗ ∃ W, owes (SparseCore.T d) (0 : CellTallies nD τ sig (HIx 1)) W) ⊢ (beside (F := F) d : sProp 𝕄) from .rfl) $$ [Hp HO]
  · isplitl [Hp]; · iexists (ρ d); iexact Hp
    iexact HO
  rw [wp_bind]
  iapply (wp_step (W₃ m) 0 d (K (F := F)).lev)
  isplitl [Hb]; · iexact Hb
  isplitl [Hbufs]; · iexact Hbufs
  isplitl [Hs]; · iexact Hs
  isplitr; · iexact Hlv
  isplitl [Hc0]; · iexact Hc0
  isplitl [Ht0]; · iexact Ht0
  iintro ⟨Hb, Hbufs, Hs⟩
  rw [wp_bind]
  iapply (wp_step (W₄ m) 1 d (K (F := F)).lev)
  isplitl [Hb]; · iexact Hb
  isplitl [Hbufs]; · iexact Hbufs
  isplitl [Hs]; · iexact Hs
  isplitr; · iexact Hlv
  isplitl [Hc1]; · iexact Hc1
  isplitl [Ht1]; · iexact Ht1
  iintro ⟨Hb, Hbufs, Hs⟩
  rw [wp_bind]
  iapply (wp_step (W₅ m) 2 d (K (F := F)).lev)
  isplitl [Hb]; · iexact Hb
  isplitl [Hbufs]; · iexact Hbufs
  isplitl [Hs]; · iexact Hs
  isplitr; · iexact Hlv
  isplitl [Hc2]; · iexact Hc2
  isplitl [Ht2]; · iexact Ht2
  iintro ⟨Hb, Hbufs, Hs⟩
  iapply (wp_seq 𝒱 none Set.univ d (Pipeline.ucRefs τ sig) _ endOps (ops_sub endOps_sub) endOps_fresh (W₆ m d)) $$ [Hb Hbufs]
  · isplitl [Hb] <;> iassumption
  iintro ⟨Hb, Hbufs⟩
  unfold beside
  icases Hs with ⟨-, HO⟩
  rw [wp_pure]
  imodintro
  isplitl [Hst HO]
  · iapply Hst; iexact HO
  isplitl [Hbufs]; · iexact Hbufs
  isplitl [Hb] <;> iassumption

def fq (d : Dev nD) (s' : Phys nD τ sig (Elt F)) : Prop := ∀ b ∈ Pipeline.ucRefs τ sig, s'.mem.mem (d, b) = W₇ m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := W₇ m d) (Pipeline.ucRefs τ sig))
  isplitl [HSI]; · iexact HSI
  unfold FIN held
  iexact H

/-- The program's run: every array of the device ends at `W₇`, every semaphore counter at zero. -/
theorem run_main [∀ e, Nonempty (Elt F e)] (hix : ∀ d, InRows (W₁ m d (Proc.devRef .tc main_v14))) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = W₇ m d b) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl _ _ _ facts hix)
    (fun q _ => match q with | 0 => SparseCore.Cfg.VecSplit.of_plain (vecSplit _ _ _))
    m ρ main (fun d => ghosts (F := F) d) (FIN m) (u₀ (F := F)) (sep_elim_left.trans (hu₀ _ _ _)) (hmain m ρ) (fq m) (hfin m) _ (fun _ h hz => ⟨h, hz⟩)

end Main

end Cert.Proof.Rows

end
-- ==== Proof.Norm.lean ====
/-
  The arithmetic of one layer on the reals, and the extended reals' operations on real arguments. A layer normalises each
  channel by its mean and variance over all centres and neighbours; the kernel takes the variance as the mean of the
  squares less the square of the mean, the reference as the mean of the squared distances.
-/
module

public import Idealize.ShloMosaic.PureOps.Ideal
public import Idealize.ShloMosaic.Lib.IdealHost

@[expose] public section

noncomputable section

namespace Cert.Proof.Norm

open Idealize.ShloMosaic
open scoped BigOperators

/-! ## Words -/

/-- The number of centres times neighbours. -/
theorem word_n : Ideal.ofBits .f32 0x48800000#32 = ((262144 : ℝ) : EReal) := by
  simp [Ideal.ofBits, Ideal.ieee, -EReal.coe_mul]; norm_num

/-- What is added to a variance. -/
def eps : ℝ := 10995116 * (2 : ℝ) ^ (-40 : Int)

theorem word_eps : Ideal.ofBits .f32 0x3727C5AC#32 = (eps : EReal) := by
  unfold eps
  simp [Ideal.ofBits, Ideal.ieee, -EReal.coe_mul]

theorem eps_pos : 0 < eps := by unfold eps; positivity

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

/-! ## Real arguments -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : max (x : EReal) (y : EReal) = ((max x y : ℝ) : EReal) :=
  (EReal.coe_strictMono.monotone.map_max).symm

theorem div_real (x : ℝ) {y : ℝ} (h : y ≠ 0) : Ideal.div (x : EReal) (y : EReal) = ((x / y : ℝ) : EReal) := by
  rw [Ideal.div_coe h, ← EReal.coe_mul, mul_one_div]

theorem sqrt_real {r : ℝ} (h : 0 ≤ r) : Ideal.sqrt (r : EReal) = ((Real.sqrt r : ℝ) : EReal) := if_neg (not_lt.2 h)

theorem rsqrt_real {r : ℝ} (h : 0 < r) : Ideal.rsqrt (r : EReal) = (((Real.sqrt r)⁻¹ : ℝ) : EReal) :=
  (if_neg (not_lt.2 h.le)).trans (if_neg h.ne')

/-! ## One channel over all centres and neighbours -/

/-- The sum over all centres and neighbours. -/
def total (y : Fin 8192 → Fin 32 → ℝ) : ℝ := ∑ a, ∑ k, y a k

def mean (y : Fin 8192 → Fin 32 → ℝ) : ℝ := total y / 262144

/-- The mean of the squared distances from the mean. -/
def var (y : Fin 8192 → Fin 32 → ℝ) : ℝ := total (fun a k => (y a k - mean y) * (y a k - mean y)) / 262144

theorem var_nonneg (y : Fin 8192 → Fin 32 → ℝ) : 0 ≤ var y :=
  div_nonneg (Finset.sum_nonneg fun _ _ => Finset.sum_nonneg fun _ _ => mul_self_nonneg _) (by norm_num)

theorem var_eps_pos (y : Fin 8192 → Fin 32 → ℝ) : 0 < var y + eps := add_pos_of_nonneg_of_pos (var_nonneg y) eps_pos

/-- The mean of the squares less the square of the mean. -/
theorem var_eq (y : Fin 8192 → Fin 32 → ℝ) : total (fun a k => y a k * y a k) / 262144 - mean y * mean y = var y := by
  have h1 : total (fun a k => (y a k - mean y) * (y a k - mean y))
      = total (fun a k => y a k * y a k) - 2 * mean y * total y + 262144 * (mean y * mean y) := by
    unfold total
    have e : ∀ a, (∑ k : Fin 32, (y a k - mean y) * (y a k - mean y))
        = (∑ k, y a k * y a k) - 2 * mean y * (∑ k, y a k) + 32 * (mean y * mean y) := by
      intro a
      rw [Finset.mul_sum, ← Finset.sum_sub_distrib, show (32 : ℝ) * (mean y * mean y) = ∑ _k : Fin 32, mean y * mean y by simp, ← Finset.sum_add_distrib]
      exact Finset.sum_congr rfl fun k _ => by ring
    rw [Finset.sum_congr rfl fun a _ => e a, Finset.sum_add_distrib, Finset.sum_sub_distrib, ← Finset.mul_sum]
    simp
    ring
  have h2 : total y = 262144 * mean y := by unfold mean; ring
  unfold var
  rw [h1, h2]
  ring

/-- The factor a channel is scaled by. -/
def scale (y : Fin 8192 → Fin 32 → ℝ) (g : ℝ) : ℝ := g * (Real.sqrt (var y + eps))⁻¹

/-- The normalised channel, offset and cut at zero, as the next layer takes it. -/
def act (y : Fin 8192 → Fin 32 → ℝ) (g be : ℝ) (a : Fin 8192) (k : Fin 32) : ℝ :=
  max (y a k * scale y g + (be - mean y * scale y g)) 0

/-! ## The extreme of a group and a monotone map -/

/-- The greatest of a group, scaled by a nonnegative factor and offset, is the greatest of the scaled and offset ones. -/
theorem max_scaled (f : Fin 32 → ℝ) (s : ℝ) (hs : 0 ≤ s) (c : EReal) :
    max ((Finset.univ.fold max ⊥ fun k => (f k : EReal)) * (s : EReal) + c) 0
      = Finset.univ.fold max ⊥ fun k => max ((f k : EReal) * (s : EReal) + c) 0 := by
  obtain ⟨k₀, h₀⟩ := Finite.exists_max f
  have h1 : (Finset.univ.fold max ⊥ fun k => (f k : EReal)) = (f k₀ : EReal) :=
    le_antisymm ((Finset.fold_max_le _).2 ⟨bot_le, fun k _ => EReal.coe_le_coe_iff.2 (h₀ k)⟩)
      ((Finset.le_fold_max _).2 (.inr ⟨k₀, Finset.mem_univ _, le_rfl⟩))
  rw [h1]
  refine le_antisymm ((Finset.le_fold_max _).2 (.inr ⟨k₀, Finset.mem_univ _, le_rfl⟩)) ((Finset.fold_max_le _).2 ⟨bot_le, fun k _ => ?_⟩)
  refine max_le_max ?_ le_rfl
  refine add_le_add ?_ le_rfl
  rw [← EReal.coe_mul, ← EReal.coe_mul]
  exact EReal.coe_le_coe_iff.2 (mul_le_mul_of_nonneg_right (h₀ k) hs)

/-- By a negative factor, it is the least that counts. -/
theorem min_scaled (f : Fin 32 → ℝ) (s : ℝ) (hs : s ≤ 0) (c : EReal) :
    max ((Finset.univ.fold min ⊤ fun k => (f k : EReal)) * (s : EReal) + c) 0
      = Finset.univ.fold max ⊥ fun k => max ((f k : EReal) * (s : EReal) + c) 0 := by
  obtain ⟨k₀, h₀⟩ := Finite.exists_min f
  have h1 : (Finset.univ.fold min ⊤ fun k => (f k : EReal)) = (f k₀ : EReal) :=
    le_antisymm ((Finset.fold_min_le _).2 (.inr ⟨k₀, Finset.mem_univ _, le_rfl⟩))
      ((Finset.le_fold_min _).2 ⟨le_top, fun k _ => EReal.coe_le_coe_iff.2 (h₀ k)⟩)
  rw [h1]
  refine le_antisymm ((Finset.le_fold_max _).2 (.inr ⟨k₀, Finset.mem_univ _, le_rfl⟩)) ((Finset.fold_max_le _).2 ⟨bot_le, fun k _ => ?_⟩)
  refine max_le_max ?_ le_rfl
  refine add_le_add ?_ le_rfl
  rw [← EReal.coe_mul, ← EReal.coe_mul]
  exact EReal.coe_le_coe_iff.2 (mul_le_mul_of_nonpos_right (h₀ k) hs)

end Cert.Proof.Norm

end
-- ==== Proof.RefVal.lean ====
/-
  The reference read at an index: its two layers over the gathered neighbours, and what they come to on real arguments.
-/
module

public import proofs.«01_k».proof.Proof.Norm
public import proofs.«01_k».proof.Proof.Gen.ReferenceIdeal.Run
public import Idealize.ShloMosaic.Lib.Pointwise

@[expose] public section

noncomputable section

namespace Cert.Proof.RefVal

open Cert.ReferenceIdeal Cert.ReferenceIdeal.Gen
open Idealize.ShloMosaic Idealize.ShloMosaic.StableHlo
open Cert.Proof.Norm
open scoped BigOperators

/-! ## The operations, over any arrays -/

/-- The first layer's sums of products: the neighbours' points less their centres, then their features. -/
def conv1 (G : FVec Ideal S4x2048x32x3 .f32) (C : FVec Ideal S4x2048x3 .f32) (H : FVec Ideal S4x2048x32x64 .f32) (w : FVec Ideal S64x67 .f32)
    (b : FVec Ideal S64 .f32) : FVec Ideal S8192x64x32 .f32 :=
  addf (transpose S8192x64x32 [0, 2, 1] (Host.dotGeneral dot_S8192x67x32_S64x67_S8192x32x64_1_1_02_0_n_n none
    (shapeCast _ (concatenate S4x2048x67x32 2 [⟨S4x2048x3x32, (transpose S4x2048x3x32 [0, 1, 3, 2] (subf G
        (broadcastInDim S4x2048x32x3 ![0, 1, 2, 3] bcast_S4x2048x1x3_S4x2048x32x3_0_1_2_3 (broadcastInDim S4x2048x1x3 ![0, 1, 3] bcast_S4x2048x3_S4x2048x1x3_0_1_3 C)))
          transposes_S4x2048x32x3_S4x2048x3x32_0_1_3_2)⟩,
      ⟨S4x2048x64x32, (transpose S4x2048x64x32 [0, 1, 3, 2] H transposes_S4x2048x32x64_S4x2048x64x32_0_1_3_2)⟩]
      concatenates_S4x2048x3x32_S4x2048x64x32_S4x2048x67x32_d2) shapeCasts_S4x2048x67x32_S8192x67x32) w) transposes_S8192x32x64_S8192x64x32_0_2_1)
    (broadcastInDim S8192x64x32 ![0, 1, 2] bcast_S1x64x1_S8192x64x32_0_1_2 (broadcastInDim S1x64x1 ![1] bcast_S64_S1x64x1_1 b))

set_option maxRecDepth 16384 in
theorem conv1_apply (G : FVec Ideal S4x2048x32x3 .f32) (C : FVec Ideal S4x2048x3 .f32) (H : FVec Ideal S4x2048x32x64 .f32) (w : FVec Ideal S64x67 .f32)
    (b : FVec Ideal S64 .f32) (a : Fin 8192) (o : Fin 64) (k : Fin 32) :
    conv1 G C H w b (ix3 a o k)
      = ∑ x : Fin 3, (G (ix4 ⟨a.val / 2048, by omega⟩ ⟨a.val % 2048, by omega⟩ k x) - C (ix3 ⟨a.val / 2048, by omega⟩ ⟨a.val % 2048, by omega⟩ x))
          * w (ix2 o ⟨x.val, by omega⟩)
        + ∑ x : Fin 64, H (ix4 ⟨a.val / 2048, by omega⟩ ⟨a.val % 2048, by omega⟩ k x) * w (ix2 o ⟨3 + x.val, by omega⟩) + b (ix1 o) := by
  pointwise [conv1]

/-- The second layer's sums of products. -/
def conv2 (h : FVec Ideal S8192x64x32 .f32) (w : FVec Ideal S128x64 .f32) (b : FVec Ideal S128 .f32) : FVec Ideal S8192x128x32 .f32 :=
  addf (transpose S8192x128x32 [0, 2, 1] (Host.dotGeneral dot_S8192x64x32_S128x64_S8192x32x128_1_1_02_0_n_n none h w) transposes_S8192x32x128_S8192x128x32_0_2_1)
    (broadcastInDim S8192x128x32 ![0, 1, 2] bcast_S1x128x1_S8192x128x32_0_1_2 (broadcastInDim S1x128x1 ![1] bcast_S128_S1x128x1_1 b))

theorem conv2_apply (h : FVec Ideal S8192x64x32 .f32) (w : FVec Ideal S128x64 .f32) (b : FVec Ideal S128 .f32) (a : Fin 8192) (o : Fin 128) (k : Fin 32) :
    conv2 h w b (ix3 a o k) = ∑ x : Fin 64, h (ix3 a x k) * w (ix2 o x) + b (ix1 o) := by
  pointwise [conv2]

/-! ## A channel's sum over all centres and neighbours -/

/-- What a sum over the first and last of three axes adds, at a middle coordinate. -/
theorem sum_outer {n₀ n₁ n₂ : Nat} (h : (⟨3, ![n₀, n₁, n₂]⟩ : Shape).ReducesTo [0, 2] ⟨1, ![n₁]⟩) (v : (⟨3, ![n₀, n₁, n₂]⟩ : Shape).Idx → EReal)
    (init : EReal) (o : Fin n₁) :
    Ideal.hostReduceAdd h v init (ix1 o) = init + ∑ a : Fin n₀, ∑ k : Fin n₂, v (ix3 a o k) := by
  refine congrArg (init + ·) ?_
  refine (Finset.sum_filter_eq_sum_of_fiber _ (fun p : Fin n₀ × Fin n₂ => ix3 p.1 o p.2) (fun p q e => ?_) (fun i => ?_) v).trans
    (Fintype.sum_prod_type _)
  · exact Prod.ext (congrFun e 0) (congrFun e 2)
  · constructor
    · intro e
      refine ⟨(i 0, i 2), ?_⟩
      funext x
      match x with
      | ⟨0, _⟩ => rfl
      | ⟨1, _⟩ => exact Fin.ext (congrArg Fin.val (congrFun e 0)).symm
      | ⟨2, _⟩ => rfl
    · rintro ⟨p, rfl⟩
      funext x
      match x with
      | ⟨0, _⟩ => rfl

section Channels

variable {n : Nat} (hr : (⟨3, ![8192, n, 32]⟩ : Shape).ReducesTo [0, 2] ⟨1, ![n]⟩) (h1 : (⟨1, ![n]⟩ : Shape).BroadcastsInDim ⟨3, ![1, n, 1]⟩ ![1])
  (h0 : S_.BroadcastsInDim ⟨3, ![1, n, 1]⟩ ![]) (h3 : (⟨3, ![1, n, 1]⟩ : Shape).BroadcastsInDim ⟨3, ![8192, n, 32]⟩ ![0, 1, 2])
  (h4 : S_.BroadcastsInDim ⟨3, ![8192, n, 32]⟩ ![])

/-- A coordinate chosen by whether the axis has length one. -/
theorem pick {n : Nat} (f : n = 1 → Fin n) (g : ¬n = 1 → Fin n) (o : Fin n) (hg : ∀ h, (g h).val = o.val) : (dite (n = 1) f g).val = o.val := by
  by_cases e : n = 1
  · subst e; exact congrArg Fin.val (Subsingleton.elim _ _)
  · rw [dif_neg e]; exact hg e

/-- One value per channel, spread over all centres and neighbours. -/
def spread (x : FVec Ideal ⟨3, ![1, n, 1]⟩ .f32) : FVec Ideal ⟨3, ![8192, n, 32]⟩ .f32 := broadcastInDim ⟨3, ![8192, n, 32]⟩ ![0, 1, 2] h3 x

theorem spread_apply (x : FVec Ideal ⟨3, ![1, n, 1]⟩ .f32) (a : Fin 8192) (o : Fin n) (k : Fin 32) : spread h3 x (ix3 a o k) = x (ix3 0 o 0) := by
  refine congrArg x (funext fun i => Fin.ext ?_)
  match i with
  | ⟨0, _⟩ => rfl
  | ⟨1, _⟩ =>
    exact pick _ _ o fun _ => rfl
  | ⟨2, _⟩ => rfl

/-- One value per channel, between two axes of length one. -/
def lift (x : FVec Ideal ⟨1, ![n]⟩ .f32) : FVec Ideal ⟨3, ![1, n, 1]⟩ .f32 := broadcastInDim ⟨3, ![1, n, 1]⟩ ![1] h1 x

theorem lift_apply (x : FVec Ideal ⟨1, ![n]⟩ .f32) (o : Fin n) : lift h1 x (ix3 0 o 0) = x (ix1 o) := by
  refine congrArg x (funext fun i => Fin.ext ?_)
  match i with
  | ⟨0, _⟩ =>
    exact pick _ _ o fun _ => rfl

/-- A channel's sum divided by a number. -/
def avg (y : FVec Ideal ⟨3, ![8192, n, 32]⟩ .f32) (d : FVec Ideal S_ .f32) : FVec Ideal ⟨3, ![1, n, 1]⟩ .f32 :=
  Host.divf (lift h1 (Host.reduceAdd y (constant S_ .f32 0x00000000#32) hr h_S_)) (broadcastInDim ⟨3, ![1, n, 1]⟩ ![] h0 d)

/-- What the variance's sum is divided by. -/
def count : FVec Ideal S_ .f32 := subf (constant S_ .f32 0x48800000#32) (sitofp .f32 (constantI S_ 32 0#32))

/-- A channel less its mean. -/
def centred (y : FVec Ideal ⟨3, ![8192, n, 32]⟩ .f32) : FVec Ideal ⟨3, ![8192, n, 32]⟩ .f32 :=
  subf y (spread h3 (avg hr h1 h0 y (constant S_ .f32 0x48800000#32)))

/-- What a channel is divided by. -/
def spreadOf (y : FVec Ideal ⟨3, ![8192, n, 32]⟩ .f32) : FVec Ideal ⟨3, ![1, n, 1]⟩ .f32 :=
  Host.sqrt (addf (select (broadcastInDim ⟨3, ![1, n, 1]⟩ ![] h0 (cmpf .ogt count (constant S_ .f32 0x00000000#32)))
      (avg hr h1 h0 (mulf (centred hr h1 h0 h3 y) (centred hr h1 h0 h3 y)) count)
      (broadcastInDim ⟨3, ![1, n, 1]⟩ ![] h0 (id (constant S_ .f32 0x7FC00000#32)))) (broadcastInDim ⟨3, ![1, n, 1]⟩ ![] h0 (constant S_ .f32 0x3727C5AC#32)))

/-- The normalisation as the reference computes it, with the cut at zero. -/
def normed (y : FVec Ideal ⟨3, ![8192, n, 32]⟩ .f32) (g be : FVec Ideal ⟨1, ![n]⟩ .f32) : FVec Ideal ⟨3, ![8192, n, 32]⟩ .f32 :=
  maximumf (addf (mulf (Host.divf (centred hr h1 h0 h3 y) (spread h3 (spreadOf hr h1 h0 h3 y))) (spread h3 (lift h1 g))) (spread h3 (lift h1 be)))
    (broadcastInDim ⟨3, ![8192, n, 32]⟩ ![] h4 (constant S_ .f32 0x00000000#32))

theorem count_apply (i : S_.Idx) : count i = ((262144 : ℝ) : EReal) := by
  have h : (sitofp (F := Ideal) .f32 (constantI S_ 32 0#32) : FVec Ideal S_ .f32) i = 0 := by
    show (((0#32 : BitVec 32).toInt : ℝ) : EReal) = 0
    simp
  show Ideal.ofBits .f32 0x48800000#32 - (sitofp (F := Ideal) .f32 (constantI S_ 32 0#32) : FVec Ideal S_ .f32) i = _
  rw [h, word_n, sub_zero]

theorem avg_apply (y : FVec Ideal ⟨3, ![8192, n, 32]⟩ .f32) (d : FVec Ideal S_ .f32) (o : Fin n) :
    avg hr h1 h0 y d (ix3 0 o 0) = Ideal.div (∑ a, ∑ k, y (ix3 a o k)) (d ix0) := by
  pointwise [avg, lift_apply]
  rw [sum_outer, zero_add]

theorem centred_apply (y : FVec Ideal ⟨3, ![8192, n, 32]⟩ .f32) (a : Fin 8192) (o : Fin n) (k : Fin 32) :
    centred hr h1 h0 h3 y (ix3 a o k) = y (ix3 a o k) - avg hr h1 h0 y (constant S_ .f32 0x48800000#32) (ix3 0 o 0) := by
  pointwise [centred, spread_apply]

theorem spreadOf_apply (y : FVec Ideal ⟨3, ![8192, n, 32]⟩ .f32) (o : Fin n) :
    spreadOf hr h1 h0 h3 y (ix3 0 o 0)
      = Ideal.sqrt (avg hr h1 h0 (mulf (centred hr h1 h0 h3 y) (centred hr h1 h0 h3 y)) count (ix3 0 o 0) + (eps : EReal)) := by
  pointwise [spreadOf]
  rw [count_apply, if_pos (by exact_mod_cast (by norm_num : (0 : ℝ) < 262144)), word_eps]

theorem normed_apply (y : FVec Ideal ⟨3, ![8192, n, 32]⟩ .f32) (g be : FVec Ideal ⟨1, ![n]⟩ .f32) (a : Fin 8192) (o : Fin n) (k : Fin 32) :
    normed hr h1 h0 h3 h4 y g be (ix3 a o k)
      = max (Ideal.div (centred hr h1 h0 h3 y (ix3 a o k)) (spreadOf hr h1 h0 h3 y (ix3 0 o 0)) * g (ix1 o) + be (ix1 o)) 0 := by
  pointwise [normed, spread_apply, lift_apply]

/-! ## On real arguments -/

variable (y : FVec Ideal ⟨3, ![8192, n, 32]⟩ .f32) (o : Fin n) (Y : Fin 8192 → Fin 32 → ℝ) (hY : ∀ a k, y (ix3 a o k) = (Y a k : EReal))
include hY

theorem avg_real (d : FVec Ideal S_ .f32) (hd : d ix0 = ((262144 : ℝ) : EReal)) : avg hr h1 h0 y d (ix3 0 o 0) = ((total Y / 262144 : ℝ) : EReal) := by
  rw [avg_apply, hd, Finset.sum_congr rfl fun a _ => (Finset.sum_congr rfl fun k _ => hY a k).trans (coe_sum _ _), coe_sum, div_real _ (by norm_num)]
  rfl

theorem centred_real (a : Fin 8192) (k : Fin 32) : centred hr h1 h0 h3 y (ix3 a o k) = ((Y a k - mean Y : ℝ) : EReal) := by
  rw [centred_apply, hY, avg_real hr h1 h0 y o Y hY _ word_n, ← EReal.coe_sub]
  rfl

theorem spreadOf_real : spreadOf hr h1 h0 h3 y (ix3 0 o 0) = ((Real.sqrt (var Y + eps) : ℝ) : EReal) := by
  rw [spreadOf_apply, avg_real hr h1 h0 (mulf (centred hr h1 h0 h3 y) (centred hr h1 h0 h3 y)) o (fun a k => (Y a k - mean Y) * (Y a k - mean Y))
    (fun a k => by
      show centred hr h1 h0 h3 y (ix3 a o k) * centred hr h1 h0 h3 y (ix3 a o k) = _
      rw [centred_real hr h1 h0 h3 y o Y hY, ← EReal.coe_mul]) count (count_apply _), ← EReal.coe_add]
  exact sqrt_real (var_eps_pos Y).le

/-- A normalised entry: the channel's entry scaled, offset, and cut at zero. -/
theorem normed_real (g be : FVec Ideal ⟨1, ![n]⟩ .f32) (gR : ℝ) (hg : g (ix1 o) = (gR : EReal)) (a : Fin 8192) (k : Fin 32) :
    normed hr h1 h0 h3 h4 y g be (ix3 a o k)
      = max ((Y a k : EReal) * (scale Y gR : EReal) + (be (ix1 o) - ((mean Y * scale Y gR : ℝ) : EReal))) 0 := by
  rw [normed_apply, centred_real hr h1 h0 h3 y o Y hY, spreadOf_real hr h1 h0 h3 y o Y hY, hg,
    div_real _ (Real.sqrt_pos.2 (var_eps_pos Y)).ne', ← EReal.coe_mul]
  refine congrArg (fun e => max e 0) ?_
  have e : (Y a k - mean Y) / Real.sqrt (var Y + eps) * gR = Y a k * scale Y gR + -(mean Y * scale Y gR) := by unfold scale; ring
  rw [e, EReal.coe_add, EReal.coe_neg, add_assoc, add_comm (-_ : EReal), ← sub_eq_add_neg, EReal.coe_mul (Y a k)]

/-- With a real offset, the value the second layer takes. -/
theorem normed_act (g be : FVec Ideal ⟨1, ![n]⟩ .f32) (gR beR : ℝ) (hg : g (ix1 o) = (gR : EReal)) (hb : be (ix1 o) = (beR : EReal)) (a : Fin 8192) (k : Fin 32) :
    normed hr h1 h0 h3 h4 y g be (ix3 a o k) = ((act Y gR beR a k : ℝ) : EReal) := by
  rw [normed_real hr h1 h0 h3 h4 y o Y hY g be gR hg, hb, ← EReal.coe_sub, ← EReal.coe_mul, ← EReal.coe_add]
  exact coe_max _ 0

end Channels

/-! ## The reference's arrays -/

open Cert.ReferenceIdeal.Value

variable (V : Valuation τ sig (Elt Ideal))

/-- The row numbers of the reference's gathers, one per neighbour. -/
def wrapped : IVec S4x2048x32x1 32 :=
  broadcastInDim S4x2048x32x1 ![0, 1, 2] bcast_S4x2048x32_S4x2048x32x1_0_1_2 (select (cmpi .slt (res_main_v9 V) (broadcastInDim S4x2048x32 ![] bcast_S_S4x2048x32 (constantI S_ 32 0#32))) (addi (res_main_v9 V) (broadcastInDim S4x2048x32 ![] bcast_S_S4x2048x32 (constantI S_ 32 32768#32))) (res_main_v9 V))

/-- The centres. -/
def centres : FVec Ideal S4x2048x3 .f32 :=
  Host.gather gather_S4x8192x3_S2048x1_S4x2048x3_02_1_n_n_1_1_413 (V (Proc.devRef .tc main_arg0)) (broadcastInDim S2048x1 ![0] bcast_S2048_S2048x1_0 (select (cmpi .slt (res_main_v1 V) (broadcastInDim S2048 ![] bcast_S_S2048 (constantI S_ 32 0#32))) (addi (res_main_v1 V) (broadcastInDim S2048 ![] bcast_S_S2048 (constantI S_ 32 8192#32))) (res_main_v1 V)))

/-- The neighbours' points. -/
def nearXyz : FVec Ideal S4x2048x32x3 .f32 :=
  Host.gather gather_S32768x3_S4x2048x32x1_S4x2048x32x3_3_0_n_n_0_3_13 (shapeCast _ (V (Proc.devRef .tc main_arg0)) shapeCasts_S4x8192x3_S32768x3) (wrapped V)

/-- The neighbours' features. -/
def nearFeats : FVec Ideal S4x2048x32x64 .f32 :=
  Host.gather gather_S32768x64_S4x2048x32x1_S4x2048x32x64_3_0_n_n_0_3_164 (shapeCast _ (transpose S4x8192x64 [0, 2, 1] (V (Proc.devRef .tc main_arg1)) transposes_S4x64x8192_S4x8192x64_0_2_1) shapeCasts_S4x8192x64_S32768x64) (wrapped V)

theorem y1_eq : res_main_v38 V = conv1 (nearXyz V) (centres V) (nearFeats V) (V (Proc.devRef .tc main_arg3)) (V (Proc.devRef .tc main_arg4)) := rfl

theorem y2_eq : res_main_v62 V = conv2 (normed reducesTo_S8192x64x32_S64_d0_2 bcast_S64_S1x64x1_1 bcast_S_S1x64x1 bcast_S1x64x1_S8192x64x32_0_1_2 bcast_S_S8192x64x32
    (res_main_v38 V) (V (Proc.devRef .tc main_arg5)) (V (Proc.devRef .tc main_arg6))) (V (Proc.devRef .tc main_arg7)) (V (Proc.devRef .tc main_arg8)) := rfl

/-- The second layer, normalised. -/
def top : FVec Ideal S8192x128x32 .f32 :=
  normed reducesTo_S8192x128x32_S128_d0_2 bcast_S128_S1x128x1_1 bcast_S_S1x128x1 bcast_S1x128x1_S8192x128x32_0_1_2 bcast_S_S8192x128x32
    (res_main_v62 V) (V (Proc.devRef .tc main_arg9)) (V (Proc.devRef .tc main_arg10))

/-- The reference's second result from its second layer: the greatest over the neighbours, channel by channel. -/
def result (z : FVec Ideal S8192x128x32 .f32) : FVec Ideal S4x128x2048 .f32 :=
  transpose S4x128x2048 [0, 2, 1] (shapeCast _ (Host.reduce FloatOps.maximumf z (constant S_ .f32 0xFF800000#32) reducesTo_S8192x128x32_S8192x128_d2 h_S_) shapeCasts_S8192x128_S4x2048x128) transposes_S4x2048x128_S4x128x2048_0_2_1

theorem result_apply (z : FVec Ideal S8192x128x32 .f32) (b : Fin 4) (o : Fin 128) (p : Fin 2048) :
    result z (ix3 b o p) = Finset.univ.fold max ⊥ fun k : Fin 32 => z (ix3 ⟨b.val * 2048 + p.val, by omega⟩ o k) := by
  pointwise [result]
  rw [word_bot]

set_option maxHeartbeats 4000000 in
/-- What the reference's run leaves in its two results. -/
theorem run_results (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = centres (launchContents m c)
      ∧ r.2.mem ((c.tc : Thread nD τ).loc main_v84) = result (top (launchContents m c)) :=
  (θ_run defs _ _).mono (fun _ h c => ⟨(h c).1, (h c).2.1⟩) (run m ρ)

end Cert.Proof.RefVal

end
-- ==== Proof.Points.lean ====
/-
  What one gathered row holds, read at an index: on the kernel's side a row of the table the host lays out (the features,
  the point, zeros), on the reference's side `x[idx]` of the features and of the points. Both are the same entries of the
  two arguments, since every row number is in range.
-/
module

public import proofs.«01_k».proof.Proof.Launch
public import proofs.«01_k».proof.Proof.RefVal
public import Idealize.ShloMosaic.Lib.Pointwise

@[expose] public section

noncomputable section

namespace Cert.Proof.Points

open Idealize.ShloMosaic

/-! ## Rows of a matrix taken by number -/

section TakeRows

variable {α : Type} {N C R : Nat}

/-- The dimension numbers of `x[idx]` for a matrix `x : [N, C]` and a list `idx : [R]`, the list as a column. -/
abbrev rowDims (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- `x[idx]` at row `r` and column `c`: the row whose number is entry `r`, when that entry is in range. -/
theorem rows_apply (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (r : Fin R) (c : Fin C) (n : Fin N)
    (hn : (idx (ix2 r 0)).toInt = n.val) :
    Host.gather (rowDims wf) x idx (ix2 r c) = x (ix2 n c) := by
  unfold Host.gather
  congr 1
  funext a
  refine Fin.ext ?_
  show (rowDims wf).start (ix2 r c) idx a + (rowDims wf).batchCoord (ix2 r c) a + (rowDims wf).offCoord (ix2 r c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (rowDims wf).startIndexMap from List.mem_singleton.mpr rfl)]
    have hsi : (rowDims wf).siIdx (ix2 r c) ⟨List.idxOf (⟨0, by decide⟩ : Fin 2) (rowDims wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, hn]
    show min ((n.val : Int).toNat) (N - 1) + 0 + 0 = n.val
    have := n.isLt
    rw [Int.toNat_natCast]; omega
  | ⟨1, _⟩ =>
    unfold GatherDims.start
    rw [dif_neg (show (⟨1, by decide⟩ : Fin 2) ∉ (rowDims wf).startIndexMap from fun h =>
      absurd (congrArg Fin.val (List.mem_singleton.1 h)) Nat.one_ne_zero)]
    show 0 + 0 + c.val = c.val
    omega

end TakeRows

/-! ## The row numbers -/

/-- jax's wrap of a negative row number does nothing to one in range. -/
theorem wrap_eq (v : BitVec 32) (h : v.toNat < 32768) :
    (if IntOp.cmpi .slt v 0#32 = 1#1 then IntOp.addi v 32768#32 else v) = v := by
  rw [if_neg]
  intro e
  have ofBool_eq_one (p : Bool) : (BitVec.ofBool p = 1#1) ↔ p = true := by cases p <;> decide
  simp only [IntOp.cmpi, ofBool_eq_one, BitVec.slt_eq_decide, decide_eq_true_eq, BitVec.toInt_eq_toNat_cond, BitVec.toNat_ofNat,
    Nat.reducePow, Nat.reduceMod] at e
  omega

theorem toInt_eq (v : BitVec 32) (h : v.toNat < 32768) : v.toInt = ((⟨v.toNat % 32768, Nat.mod_lt _ (by decide)⟩ : Fin 32768).val : Int) := by
  show v.toInt = ((v.toNat % 32768 : Nat) : Int)
  rw [BitVec.toInt_eq_toNat_cond, Nat.mod_eq_of_lt h, if_pos (by omega)]

/-- The precondition's test of one row number, all ones, says that it is in range. -/
theorem in_range (v : BitVec 32) (e : IntOp.andi (IntOp.cmpi .sge v 0#32) (IntOp.cmpi .slt v 32768#32) = 1#1) : v.toNat < 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-! ## One row -/

section Row

open Cert.KernelIdeal Cert.KernelIdeal.Gen

variable {F : FTy → Type} [FloatOps F] (xyz : S4x8192x3.Idx → Elt F .f32) (feats : S4x64x8192.Idx → Elt F .f32)

/-- Row `n` of the table, column `c`. -/
def entry (n : Fin 32768) (c : Fin 128) : Elt F .f32 :=
  if h : c.val < 64 then feats (ix3 ⟨n.val / 8192, by omega⟩ ⟨c.val, h⟩ ⟨n.val % 8192, by omega⟩)
  else if h' : c.val - 64 < 3 then xyz (ix3 ⟨n.val / 8192, by omega⟩ ⟨n.val % 8192, by omega⟩ ⟨c.val - 64, h'⟩)
  else FloatOps.ofBits .f32 0#32

/-- The table the host lays out. -/
abbrev table : S32768x128.Idx → Elt F .f32 :=
  shapeCast S32768x128 (concatenate S4x8192x128 2 [⟨S4x8192x64, transpose S4x8192x64 [0, 2, 1] feats transposes_S4x64x8192_S4x8192x64_0_2_1⟩,
    ⟨S4x8192x3, xyz⟩, ⟨S4x8192x61, broadcastInDim S4x8192x61 ![] bcast_S_S4x8192x61 (constant (F := F) S_ .f32 0x00000000#32)⟩]
    concatenates_S4x8192x64_S4x8192x3_S4x8192x61_S4x8192x128_d2) shapeCasts_S4x8192x128_S32768x128

theorem table_apply (n : Fin 32768) (c : Fin 128) : table xyz feats (ix2 n c) = entry xyz feats n c := by
  unfold entry
  pointwise [table]

/-- The list of row numbers the host lays out. -/
abbrev rowNos (a : S4x32x2048.Idx → BitVec 32) : S262144.Idx → BitVec 32 :=
  shapeCast S262144 (transpose S4x2048x32 [0, 2, 1] a transposes_S4x32x2048_S4x2048x32_0_2_1) shapeCasts_S4x2048x32_S262144

theorem rowNos_apply (a : S4x32x2048.Idx → BitVec 32) (n : Fin 262144) :
    rowNos a (ix1 n) = a (ix3 ⟨n.val / 65536, by omega⟩ ⟨n.val % 32, by omega⟩ ⟨n.val / 32 % 2048, by omega⟩) := by
  pointwise [rowNos]

theorem rowNos_inRows (a : S4x32x2048.Idx → BitVec 32) (h : ∀ j, (a j).toNat < 32768) : Rows.InRows (rowNos a) := by
  intro j
  exact h _

/-- What the call leaves, from the arguments. -/
theorem rowsOf_apply (a : S4x32x2048.Idx → BitVec 32) (r : Fin 262144) (c : Fin 128) :
    Rows.rowsOf (F := F) (table xyz feats) (rowNos a) (ix2 r c)
      = entry xyz feats ⟨(rowNos a (ix1 r)).toNat % 32768, Nat.mod_lt _ (by decide)⟩ c := table_apply xyz feats _ c

end Row

/-! ## The reference's gathers -/

section TakeNear

variable {α : Type} {N C A P K : Nat}

/-- The dimension numbers of `x[idx]` for a matrix `x : [N, C]` and an array of row numbers `idx : [A, P, K]`, carried with a last axis of 1. -/
abbrev nearDims (wf : GatherDims.WF ⟨2, ![N, C]⟩ ⟨4, ![A, P, K, 1]⟩ ⟨4, ![A, P, K, C]⟩ [3] [0] [] [0] [] 3 ![1, C]) :
    GatherDims ⟨2, ![N, C]⟩ ⟨4, ![A, P, K, 1]⟩ ⟨4, ![A, P, K, C]⟩ where
  offsetDims := [3]
  collapsedSliceDims := [0]
  operandBatchingDims := []
  startIndicesBatchingDims := []
  startIndexMap := [0]
  indexVectorDim := 3
  sliceSizes := ![1, C]
  wf := wf

/-- `x[idx]` at neighbour `(b, p, k)` and column `c`: the row whose number is that entry, when it is in range. -/
theorem near_apply (wf : GatherDims.WF ⟨2, ![N, C]⟩ ⟨4, ![A, P, K, 1]⟩ ⟨4, ![A, P, K, C]⟩ [3] [0] [] [0] [] 3 ![1, C])
    (x : (⟨2, ![N, C]⟩ : Shape).Idx → α) (idx : IVec ⟨4, ![A, P, K, 1]⟩ 32) (b : Fin A) (p : Fin P) (k : Fin K) (c : Fin C) (n : Fin N)
    (hn : (idx (ix4 b p k 0)).toInt = n.val) :
    Host.gather (nearDims wf) x idx (ix4 b p k c) = x (ix2 n c) := by
  unfold Host.gather
  congr 1
  funext a
  refine Fin.ext ?_
  show (nearDims wf).start (ix4 b p k c) idx a + (nearDims wf).batchCoord (ix4 b p k c) a + (nearDims wf).offCoord (ix4 b p k c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (nearDims wf).startIndexMap from List.mem_singleton.mpr rfl)]
    have hsi : (nearDims wf).siIdx (ix4 b p k c) ⟨List.idxOf (⟨0, by decide⟩ : Fin 2) (nearDims wf).startIndexMap,
        List.idxOf_lt_length_iff.2 (List.mem_singleton.mpr rfl)⟩ = ix4 b p k 0 := by
      funext e; refine Fin.ext ?_
      match e with
      | ⟨0, _⟩ => rfl
      | ⟨1, _⟩ => rfl
      | ⟨2, _⟩ => rfl
      | ⟨3, _⟩ => rfl
    rw [hsi, hn]
    show min ((n.val : Int).toNat) (N - 1) + 0 + 0 = n.val
    have := n.isLt
    rw [Int.toNat_natCast]; omega
  | ⟨1, _⟩ =>
    unfold GatherDims.start
    rw [dif_neg (show (⟨1, by decide⟩ : Fin 2) ∉ (nearDims wf).startIndexMap from fun h =>
      absurd (congrArg Fin.val (List.mem_singleton.1 h)) Nat.one_ne_zero)]
    show 0 + 0 + c.val = c.val
    omega

end TakeNear

section Ref

open Cert.ReferenceIdeal Cert.ReferenceIdeal.Gen Idealize.ShloMosaic.StableHlo

variable (V : Valuation τ sig (Elt Ideal))

/-- The reference's arguments. -/
abbrev xyzOf : S4x8192x3.Idx → Elt Ideal .f32 := V (Proc.devRef .tc main_arg0)
abbrev featsOf : S4x64x8192.Idx → Elt Ideal .f32 := V (Proc.devRef .tc main_arg1)
abbrev idxOf : S4x32x2048.Idx → BitVec 32 := V (Proc.devRef .tc main_arg2)

/-- The row number of neighbour `k` of centre `(b, p)`. -/
def rowNo (b : Fin 4) (p : Fin 2048) (k : Fin 32) : Fin 32768 := ⟨(idxOf V (ix3 b k p)).toNat % 32768, Nat.mod_lt _ (by decide)⟩

theorem wrapped_apply (b : Fin 4) (p : Fin 2048) (k : Fin 32) (h : (idxOf V (ix3 b k p)).toNat < 32768) : RefVal.wrapped V (ix4 b p k 0) = idxOf V (ix3 b k p) := by
  have e : RefVal.wrapped V (ix4 b p k 0)
      = if IntOp.cmpi .slt (idxOf V (ix3 b k p)) 0#32 = 1#1 then IntOp.addi (idxOf V (ix3 b k p)) 32768#32 else idxOf V (ix3 b k p) := by
    unfold RefVal.wrapped Cert.ReferenceIdeal.Value.res_main_v9
    pointwise
    rfl
  exact e.trans (wrap_eq _ h)

theorem nearXyz_apply (b : Fin 4) (p : Fin 2048) (k : Fin 32) (c : Fin 3) (h : (idxOf V (ix3 b k p)).toNat < 32768) :
    RefVal.nearXyz V (ix4 b p k c) = xyzOf V (ix3 ⟨(rowNo V b p k).val / 8192, by omega⟩ ⟨(rowNo V b p k).val % 8192, by omega⟩ c) := by
  refine (near_apply _ _ _ b p k c (rowNo V b p k) ?_).trans ?_
  · rw [wrapped_apply V b p k h]; exact toInt_eq _ h
  · pointwise

theorem nearFeats_apply (b : Fin 4) (p : Fin 2048) (k : Fin 32) (c : Fin 64) (h : (idxOf V (ix3 b k p)).toNat < 32768) :
    RefVal.nearFeats V (ix4 b p k c) = featsOf V (ix3 ⟨(rowNo V b p k).val / 8192, by omega⟩ c ⟨(rowNo V b p k).val % 8192, by omega⟩) := by
  refine (near_apply _ _ _ b p k c (rowNo V b p k) ?_).trans ?_
  · rw [wrapped_apply V b p k h]; exact toInt_eq _ h
  · pointwise

end Ref

end Cert.Proof.Points

end
-- ==== Proof.Host.lean ====
/-
  What the host's ops hand the tensor-core calls, and what is read back at the end: every array the claims name, from the
  arguments and the calls' arrays.
-/
module

public import proofs.«01_k».proof.Proof.Points
public import proofs.«01_k».proof.Proof.RefVal
public import Idealize.ShloMosaic.Lib.Pointwise

@[expose] public section

noncomputable section

namespace Cert.Proof.Host

open Cert.KernelIdeal Cert.KernelIdeal.Gen
open Idealize.ShloMosaic Idealize.ShloMosaic.TcCoe Idealize.ShloMosaic.StableHlo
open Cert.Proof.Rows Cert.Proof.Regs

variable {F : FTy → Type} [FloatOps F] (m : (ℓ : Loc nD τ sig) → Buf (Elt F) ℓ) (c : Dev nD)

/-- Call `p` only reads the array, or does not have it among its arrays. -/
abbrev Reads (p : Fin 3) (b : Ref sig .tc) : Prop := ∀ w, Pipeline.arrRef (cfgs p).spec w = b → ((cfgs p).win w).isOut = false

/-- An array none of the tensor-core calls writes is after them what it was before. -/
theorem calls_keep (b : Ref sig .tc) (h0 : Reads 0 b) (h1 : Reads 1 b) (h2 : Reads 2 b) :
    W₆ m c (Proc.devRef .tc b) = W₃ m c (Proc.devRef .tc b) := by
  exact ((left_of_in (W₅ m) 2 c b h2).trans (left_of_in (W₄ m) 1 c b h1)).trans (left_of_in (W₃ m) 0 c b h0)

/-- What the first ops leave in an array is there when the tensor-core calls start, if neither the gather nor the ops after it write it. -/
theorem start_keep (b : Ref sig .tc) (h : Proc.devRef (τ := τ) .tc b ≠ Proc.devRef (τ := τ) .tc main_v15)
    (hm : W₃ m c (Proc.devRef .tc b) = atCall (W₁ m c) (Proc.devRef .tc b)) :
    W₃ m c (Proc.devRef .tc b) = W₁ m c (Proc.devRef .tc b) := hm.trans (atCall_ne _ h)

theorem first_arg0 : W₁ m c (Proc.devRef .tc main_arg0) = m ((c.tc : Thread nD τ).loc main_arg0) := by unfold W₁; after_results <;> rfl
theorem start_arg0 : W₃ m c (Proc.devRef .tc main_arg0) = m ((c.tc : Thread nD τ).loc main_arg0) :=
  (start_keep m c main_arg0 (by decide) (by unfold W₃; after_results <;> rfl)).trans (first_arg0 m c)
theorem arg0_eq : W₇ m c (Proc.devRef .tc main_arg0) = m ((c.tc : Thread nD τ).loc main_arg0) :=
  (show _ = W₆ m c (Proc.devRef .tc main_arg0) by unfold W₇; after_results <;> rfl).trans ((calls_keep m c main_arg0 (by decide) (by decide) (by decide)).trans (start_arg0 m c))

theorem first_arg1 : W₁ m c (Proc.devRef .tc main_arg1) = m ((c.tc : Thread nD τ).loc main_arg1) := by unfold W₁; after_results <;> rfl
theorem start_arg1 : W₃ m c (Proc.devRef .tc main_arg1) = m ((c.tc : Thread nD τ).loc main_arg1) :=
  (start_keep m c main_arg1 (by decide) (by unfold W₃; after_results <;> rfl)).trans (first_arg1 m c)
theorem arg1_eq : W₇ m c (Proc.devRef .tc main_arg1) = m ((c.tc : Thread nD τ).loc main_arg1) :=
  (show _ = W₆ m c (Proc.devRef .tc main_arg1) by unfold W₇; after_results <;> rfl).trans ((calls_keep m c main_arg1 (by decide) (by decide) (by decide)).trans (start_arg1 m c))

theorem first_arg2 : W₁ m c (Proc.devRef .tc main_arg2) = m ((c.tc : Thread nD τ).loc main_arg2) := by unfold W₁; after_results <;> rfl
theorem start_arg2 : W₃ m c (Proc.devRef .tc main_arg2) = m ((c.tc : Thread nD τ).loc main_arg2) :=
  (start_keep m c main_arg2 (by decide) (by unfold W₃; after_results <;> rfl)).trans (first_arg2 m c)
theorem arg2_eq : W₇ m c (Proc.devRef .tc main_arg2) = m ((c.tc : Thread nD τ).loc main_arg2) :=
  (show _ = W₆ m c (Proc.devRef .tc main_arg2) by unfold W₇; after_results <;> rfl).trans ((calls_keep m c main_arg2 (by decide) (by decide) (by decide)).trans (start_arg2 m c))

theorem first_arg3 : W₁ m c (Proc.devRef .tc main_arg3) = m ((c.tc : Thread nD τ).loc main_arg3) := by unfold W₁; after_results <;> rfl
theorem start_arg3 : W₃ m c (Proc.devRef .tc main_arg3) = m ((c.tc : Thread nD τ).loc main_arg3) :=
  (start_keep m c main_arg3 (by decide) (by unfold W₃; after_results <;> rfl)).trans (first_arg3 m c)
theorem arg3_eq : W₇ m c (Proc.devRef .tc main_arg3) = m ((c.tc : Thread nD τ).loc main_arg3) :=
  (show _ = W₆ m c (Proc.devRef .tc main_arg3) by unfold W₇; after_results <;> rfl).trans ((calls_keep m c main_arg3 (by decide) (by decide) (by decide)).trans (start_arg3 m c))

theorem first_arg4 : W₁ m c (Proc.devRef .tc main_arg4) = m ((c.tc : Thread nD τ).loc main_arg4) := by unfold W₁; after_results <;> rfl
theorem start_arg4 : W₃ m c (Proc.devRef .tc main_arg4) = m ((c.tc : Thread nD τ).loc main_arg4) :=
  (start_keep m c main_arg4 (by decide) (by unfold W₃; after_results <;> rfl)).trans (first_arg4 m c)
theorem arg4_eq : W₇ m c (Proc.devRef .tc main_arg4) = m ((c.tc : Thread nD τ).loc main_arg4) :=
  (show _ = W₆ m c (Proc.devRef .tc main_arg4) by unfold W₇; after_results <;> rfl).trans ((calls_keep m c main_arg4 (by decide) (by decide) (by decide)).trans (start_arg4 m c))

theorem first_arg5 : W₁ m c (Proc.devRef .tc main_arg5) = m ((c.tc : Thread nD τ).loc main_arg5) := by unfold W₁; after_results <;> rfl
theorem start_arg5 : W₃ m c (Proc.devRef .tc main_arg5) = m ((c.tc : Thread nD τ).loc main_arg5) :=
  (start_keep m c main_arg5 (by decide) (by unfold W₃; after_results <;> rfl)).trans (first_arg5 m c)
theorem arg5_eq : W₇ m c (Proc.devRef .tc main_arg5) = m ((c.tc : Thread nD τ).loc main_arg5) :=
  (show _ = W₆ m c (Proc.devRef .tc main_arg5) by unfold W₇; after_results <;> rfl).trans ((calls_keep m c main_arg5 (by decide) (by decide) (by decide)).trans (start_arg5 m c))

theorem first_arg6 : W₁ m c (Proc.devRef .tc main_arg6) = m ((c.tc : Thread nD τ).loc main_arg6) := by unfold W₁; after_results <;> rfl
theorem start_arg6 : W₃ m c (Proc.devRef .tc main_arg6) = m ((c.tc : Thread nD τ).loc main_arg6) :=
  (start_keep m c main_arg6 (by decide) (by unfold W₃; after_results <;> rfl)).trans (first_arg6 m c)
theorem arg6_eq : W₇ m c (Proc.devRef .tc main_arg6) = m ((c.tc : Thread nD τ).loc main_arg6) :=
  (show _ = W₆ m c (Proc.devRef .tc main_arg6) by unfold W₇; after_results <;> rfl).trans ((calls_keep m c main_arg6 (by decide) (by decide) (by decide)).trans (start_arg6 m c))

theorem first_arg7 : W₁ m c (Proc.devRef .tc main_arg7) = m ((c.tc : Thread nD τ).loc main_arg7) := by unfold W₁; after_results <;> rfl
theorem start_arg7 : W₃ m c (Proc.devRef .tc main_arg7) = m ((c.tc : Thread nD τ).loc main_arg7) :=
  (start_keep m c main_arg7 (by decide) (by unfold W₃; after_results <;> rfl)).trans (first_arg7 m c)
theorem arg7_eq : W₇ m c (Proc.devRef .tc main_arg7) = m ((c.tc : Thread nD τ).loc main_arg7) :=
  (show _ = W₆ m c (Proc.devRef .tc main_arg7) by unfold W₇; after_results <;> rfl).trans ((calls_keep m c main_arg7 (by decide) (by decide) (by decide)).trans (start_arg7 m c))

theorem first_arg8 : W₁ m c (Proc.devRef .tc main_arg8) = m ((c.tc : Thread nD τ).loc main_arg8) := by unfold W₁; after_results <;> rfl
theorem start_arg8 : W₃ m c (Proc.devRef .tc main_arg8) = m ((c.tc : Thread nD τ).loc main_arg8) :=
  (start_keep m c main_arg8 (by decide) (by unfold W₃; after_results <;> rfl)).trans (first_arg8 m c)
theorem arg8_eq : W₇ m c (Proc.devRef .tc main_arg8) = m ((c.tc : Thread nD τ).loc main_arg8) :=
  (show _ = W₆ m c (Proc.devRef .tc main_arg8) by unfold W₇; after_results <;> rfl).trans ((calls_keep m c main_arg8 (by decide) (by decide) (by decide)).trans (start_arg8 m c))

theorem first_arg9 : W₁ m c (Proc.devRef .tc main_arg9) = m ((c.tc : Thread nD τ).loc main_arg9) := by unfold W₁; after_results <;> rfl
theorem start_arg9 : W₃ m c (Proc.devRef .tc main_arg9) = m ((c.tc : Thread nD τ).loc main_arg9) :=
  (start_keep m c main_arg9 (by decide) (by unfold W₃; after_results <;> rfl)).trans (first_arg9 m c)
theorem arg9_eq : W₇ m c (Proc.devRef .tc main_arg9) = m ((c.tc : Thread nD τ).loc main_arg9) :=
  (show _ = W₆ m c (Proc.devRef .tc main_arg9) by unfold W₇; after_results <;> rfl).trans ((calls_keep m c main_arg9 (by decide) (by decide) (by decide)).trans (start_arg9 m c))

theorem first_arg10 : W₁ m c (Proc.devRef .tc main_arg10) = m ((c.tc : Thread nD τ).loc main_arg10) := by unfold W₁; after_results <;> rfl
theorem start_arg10 : W₃ m c (Proc.devRef .tc main_arg10) = m ((c.tc : Thread nD τ).loc main_arg10) :=
  (start_keep m c main_arg10 (by decide) (by unfold W₃; after_results <;> rfl)).trans (first_arg10 m c)
theorem arg10_eq : W₇ m c (Proc.devRef .tc main_arg10) = m ((c.tc : Thread nD τ).loc main_arg10) :=
  (show _ = W₆ m c (Proc.devRef .tc main_arg10) by unfold W₇; after_results <;> rfl).trans ((calls_keep m c main_arg10 (by decide) (by decide) (by decide)).trans (start_arg10 m c))

/-! ## The gathered rows -/

theorem tab_eq : W₁ m c (Proc.devRef .tc main_v13)
    = Points.table (F := F) (m ((c.tc : Thread nD τ).loc main_arg0)) (m ((c.tc : Thread nD τ).loc main_arg1)) := by
  unfold W₁; after_results <;> rfl

theorem ix_eq : W₁ m c (Proc.devRef .tc main_v14) = Points.rowNos (m ((c.tc : Thread nD τ).loc main_arg2)) := by
  unfold W₁; after_results <;> rfl

theorem rows_eq : W₃ m c (Proc.devRef .tc main_v15)
    = rowsOf (F := F) (Points.table (F := F) (m ((c.tc : Thread nD τ).loc main_arg0)) (m ((c.tc : Thread nD τ).loc main_arg1)))
        (Points.rowNos (m ((c.tc : Thread nD τ).loc main_arg2))) := by
  refine Eq.trans (b := atCall (W₁ m c) (Proc.devRef .tc main_v15)) (by unfold W₃; after_results <;> rfl) ?_
  rw [atCall_out, tab_eq, ix_eq]

/-! ## The centres -/

theorem centres_end : W₇ m c (Proc.devRef .tc main_v8) = W₁ m c (Proc.devRef .tc main_v8) :=
  (show _ = W₆ m c (Proc.devRef .tc main_v8) by unfold W₇; after_results <;> rfl).trans
    ((calls_keep m c main_v8 (by decide) (by decide) (by decide)).trans (start_keep m c main_v8 (by decide) (by unfold W₃; after_results <;> rfl)))

/-- The centres, one row for each of a centre's 32 neighbours. -/
abbrev repeatRows (x : S4x2048x3.Idx → Elt F .f32) : S262144x3.Idx → Elt F .f32 :=
  shapeCast S262144x3 (broadcastInDim S8192x32x3 ![0, 2] bcast_S8192x3_S8192x32x3_0_2 (shapeCast S8192x3 x shapeCasts_S4x2048x3_S8192x3)) shapeCasts_S8192x32x3_S262144x3

theorem repeat_eq : W₃ m c (Proc.devRef .tc main_v33) = repeatRows (W₁ m c (Proc.devRef .tc main_v8)) := by
  refine Eq.trans (b := repeatRows (atCall (W₁ m c) (Proc.devRef .tc main_v8))) (by unfold W₃; after_results <;> rfl) ?_
  rw [atCall_ne _ (by decide)]

theorem repeat_apply (x : S4x2048x3.Idx → Elt F .f32) (n : Fin 262144) (k : Fin 3) :
    repeatRows x (ix2 n k) = x (ix3 ⟨n.val / 32 / 2048, by omega⟩ ⟨n.val / 32 % 2048, by omega⟩ k) := by
  pointwise [repeatRows]

/-! ## The weights -/

/-- The first layer's weights as the calls take them: the features' columns, the points', zeros. -/
abbrev padded (w : S64x67.Idx → Elt F .f32) : S128x64.Idx → Elt F .f32 :=
  concatenate S128x64 0 [⟨S64x64, transpose S64x64 [1, 0] (extractStridedSlice S64x64 ![0, 3] w slices_S64x67_S64x64_0_3) transposes_S64x64_S64x64_1_0⟩,
    ⟨S3x64, transpose S3x64 [1, 0] (extractStridedSlice S64x3 ![0, 0] w slices_S64x67_S64x3_0_0) transposes_S64x3_S3x64_1_0⟩,
    ⟨S61x64, broadcastInDim S61x64 ![] bcast_S_S61x64 (constant (F := F) S_ .f32 0x00000000#32)⟩] concatenates_S64x64_S3x64_S61x64_S128x64_d0

theorem padded_eq : W₃ m c (Proc.devRef .tc main_v21) = padded (m ((c.tc : Thread nD τ).loc main_arg3)) := by
  refine Eq.trans (b := padded (atCall (W₁ m c) (Proc.devRef .tc main_arg3))) (by unfold W₃; after_results <;> rfl) ?_
  rw [atCall_ne _ (by decide), first_arg3]

theorem padded_apply (w : S64x67.Idx → Elt F .f32) (x : Fin 128) (o : Fin 64) :
    padded w (ix2 x o) = if h : x.val < 64 then w (ix2 o ⟨3 + x.val, by omega⟩) else if h' : x.val - 64 < 3 then w (ix2 o ⟨x.val - 64, by omega⟩)
      else FloatOps.ofBits .f32 0#32 := by
  pointwise [padded]

abbrev pointWeights (w : S64x67.Idx → Elt F .f32) : S3x64.Idx → Elt F .f32 :=
  transpose S3x64 [1, 0] (extractStridedSlice S64x3 ![0, 0] w slices_S64x67_S64x3_0_0) transposes_S64x3_S3x64_1_0

theorem pointWeights_eq : W₃ m c (Proc.devRef .tc main_v23) = pointWeights (m ((c.tc : Thread nD τ).loc main_arg3)) := by
  refine Eq.trans (b := pointWeights (atCall (W₁ m c) (Proc.devRef .tc main_arg3))) (by unfold W₃; after_results <;> rfl) ?_
  rw [atCall_ne _ (by decide), first_arg3]

theorem pointWeights_apply (w : S64x67.Idx → Elt F .f32) (x : Fin 3) (o : Fin 64) : pointWeights w (ix2 x o) = w (ix2 o ⟨x.val, by omega⟩) := by
  pointwise [pointWeights]

theorem weights2_eq (x : Fin 64) (o : Fin 128) : W₃ m c (Proc.devRef .tc main_v24) (ix2 x o) = m ((c.tc : Thread nD τ).loc main_arg7) (ix2 o x) := by
  have e : W₃ m c (Proc.devRef .tc main_v24) = transpose S64x128 [1, 0] (m ((c.tc : Thread nD τ).loc main_arg7)) transposes_S128x64_S64x128_1_0 := by
    refine Eq.trans (b := transpose S64x128 [1, 0] (atCall (W₁ m c) (Proc.devRef .tc main_arg7)) transposes_S128x64_S64x128_1_0) (by unfold W₃; after_results <;> rfl) ?_
    rw [atCall_ne _ (by decide), first_arg7]
  refine (congrFun e _).trans ?_
  generalize (m ((c.tc : Thread nD τ).loc main_arg7) : S128x64.Idx → Elt F .f32) = w
  pointwise

theorem lane64 {α : Type} (x : S64.Idx → α) (o : Fin 64) : shapeCast S1x64 x shapeCasts_S64_S1x64 (ix2 0 o) = x (ix1 o) := by pointwise
theorem lane128 {α : Type} (x : S128.Idx → α) (o : Fin 128) : shapeCast S1x128 x shapeCasts_S128_S1x128 (ix2 0 o) = x (ix1 o) := by pointwise

theorem lane_v25 (o : Fin 64) : W₃ m c (Proc.devRef .tc main_v25) (ix2 0 o) = m ((c.tc : Thread nD τ).loc main_arg4) (ix1 o) := by
  refine (congrFun (Eq.trans (b := shapeCast S1x64 (atCall (W₁ m c) (Proc.devRef .tc main_arg4)) shapeCasts_S64_S1x64) (by unfold W₃; after_results <;> rfl) ?_) _).trans (lane64 _ o)
  rw [atCall_ne _ (by decide), first_arg4]

theorem lane_v26 (o : Fin 64) : W₃ m c (Proc.devRef .tc main_v26) (ix2 0 o) = m ((c.tc : Thread nD τ).loc main_arg5) (ix1 o) := by
  refine (congrFun (Eq.trans (b := shapeCast S1x64 (atCall (W₁ m c) (Proc.devRef .tc main_arg5)) shapeCasts_S64_S1x64) (by unfold W₃; after_results <;> rfl) ?_) _).trans (lane64 _ o)
  rw [atCall_ne _ (by decide), first_arg5]

theorem lane_v27 (o : Fin 64) : W₃ m c (Proc.devRef .tc main_v27) (ix2 0 o) = m ((c.tc : Thread nD τ).loc main_arg6) (ix1 o) := by
  refine (congrFun (Eq.trans (b := shapeCast S1x64 (atCall (W₁ m c) (Proc.devRef .tc main_arg6)) shapeCasts_S64_S1x64) (by unfold W₃; after_results <;> rfl) ?_) _).trans (lane64 _ o)
  rw [atCall_ne _ (by decide), first_arg6]

theorem lane_v28 (o : Fin 128) : W₃ m c (Proc.devRef .tc main_v28) (ix2 0 o) = m ((c.tc : Thread nD τ).loc main_arg8) (ix1 o) := by
  refine (congrFun (Eq.trans (b := shapeCast S1x128 (atCall (W₁ m c) (Proc.devRef .tc main_arg8)) shapeCasts_S128_S1x128) (by unfold W₃; after_results <;> rfl) ?_) _).trans (lane128 _ o)
  rw [atCall_ne _ (by decide), first_arg8]

theorem lane_v29 (o : Fin 128) : W₃ m c (Proc.devRef .tc main_v29) (ix2 0 o) = m ((c.tc : Thread nD τ).loc main_arg9) (ix1 o) := by
  refine (congrFun (Eq.trans (b := shapeCast S1x128 (atCall (W₁ m c) (Proc.devRef .tc main_arg9)) shapeCasts_S128_S1x128) (by unfold W₃; after_results <;> rfl) ?_) _).trans (lane128 _ o)
  rw [atCall_ne _ (by decide), first_arg9]

theorem lane_v30 (o : Fin 128) : W₃ m c (Proc.devRef .tc main_v30) (ix2 0 o) = m ((c.tc : Thread nD τ).loc main_arg10) (ix1 o) := by
  refine (congrFun (Eq.trans (b := shapeCast S1x128 (atCall (W₁ m c) (Proc.devRef .tc main_arg10)) shapeCasts_S128_S1x128) (by unfold W₃; after_results <;> rfl) ?_) _).trans (lane128 _ o)
  rw [atCall_ne _ (by decide), first_arg10]

/-! ## The result -/

theorem result_eq (b : Fin 4) (o : Fin 128) (p : Fin 2048) :
    W₇ m c (Proc.devRef .tc main_v38) (ix3 b o p) = W₆ m c (Proc.devRef .tc main_v36) (ix2 ⟨b.val * 2048 + p.val, by omega⟩ o) := by
  have e : W₇ m c (Proc.devRef .tc main_v38) = transpose S4x128x2048 [0, 2, 1] (shapeCast S4x2048x128 (W₆ m c (Proc.devRef .tc main_v36)) shapeCasts_S8192x128_S4x2048x128)
      transposes_S4x2048x128_S4x128x2048_0_2_1 := by unfold W₇; after_results <;> rfl
  refine (congrFun e _).trans ?_
  generalize (W₆ m c (Proc.devRef .tc main_v36) : S8192x128.Idx → Elt F .f32) = w
  pointwise

section Centres

variable (mI : (ℓ : Loc nD τ sig) → Buf (Elt Ideal) ℓ) (V : Valuation Cert.ReferenceIdeal.τ Cert.ReferenceIdeal.sig (Elt Ideal))

/-- The kernel's centres are the reference's. -/
theorem centres_eq (h : V (Proc.devRef .tc Cert.ReferenceIdeal.main_arg0) = mI ((c.tc : Thread nD τ).loc main_arg0)) :
    W₁ mI c (Proc.devRef .tc main_v8) = RefVal.centres V := by
  unfold RefVal.centres
  rw [h]
  unfold W₁; after_results <;> rfl

end Centres

end Cert.Proof.Host

end
-- ==== Proof.Pay.lean ====
/-
  The tensor-core calls' values at an index, on the extended reals: what one point adds to the sums, the second layer's
  entries, the extremes over a centre's neighbours, and the last call's block.
-/
module

public import proofs.«01_k».proof.Proof.Stats1
public import proofs.«01_k».proof.Proof.Layer2
public import proofs.«01_k».proof.Proof.Final
public import proofs.«01_k».proof.Proof.Norm
public import Idealize.ShloMosaic.Lib.Pointwise

@[expose] public section

noncomputable section

namespace Cert.Proof.Pay

open Cert.KernelIdeal Cert.KernelIdeal.Gen
open Idealize.ShloMosaic
open Cert.Proof.Norm
open scoped BigOperators

/-! ## Entries -/

theorem stat_row0 (s : Vec Ideal S2x64 .f32) (o : Fin 64) : Layer.row0 s (ix2 0 o) = s (ix2 0 o) := by
  pointwise [Layer.row0]

theorem stat_row1 (s : Vec Ideal S2x64 .f32) (o : Fin 64) : Layer.row1 s (ix2 0 o) = s (ix2 1 o) := by
  pointwise [Layer.row1]

theorem sum_row0 (s : Vec Ideal S2x128 .f32) (o : Fin 128) : Final.row0 s (ix2 0 o) = s (ix2 0 o) := by
  pointwise [Final.row0]

theorem sum_row1 (s : Vec Ideal S2x128 .f32) (o : Fin 128) : Final.row1 s (ix2 0 o) = s (ix2 1 o) := by
  pointwise [Final.row1]

/-- An entry of the first layer. -/
theorem first_layer (x1 : Vec Ideal S2048x128 .f32) (x2 : Vec Ideal S2048x3 .f32) (x3 : Vec Ideal S128x64 .f32) (x4 : Vec Ideal S3x64 .f32) (x5 : Vec Ideal S1x64 .f32)
    (i : Fin 2048) (o : Fin 64) :
    k2_pay10 x1 x3 x2 x4 x5 (ix2 i o) = ∑ x : Fin 128, x1 (ix2 i x) * x3 (ix2 x o) - ∑ x : Fin 3, x2 (ix2 i x) * x4 (ix2 x o) + x5 (ix2 0 o) := by
  pointwise [k2_pay10]

/-- What one point adds to the first layer's sums, -/
theorem stat_step0 (x1 : Vec Ideal S2048x128 .f32) (x2 : Vec Ideal S2048x3 .f32) (x3 : Vec Ideal S128x64 .f32) (x4 : Vec Ideal S3x64 .f32) (x5 : Vec Ideal S1x64 .f32)
    (s : Vec Ideal S2x64 .f32) (o : Fin 64) :
    k1_pay2 x1 x3 x2 x4 x5 s (ix2 0 o) = s (ix2 0 o) + ∑ i : Fin 2048, k2_pay10 x1 x3 x2 x4 x5 (ix2 i o) := by
  simp only [first_layer]
  pointwise [k1_pay2]

/-- and to the sums of its squares. -/
theorem stat_step1 (x1 : Vec Ideal S2048x128 .f32) (x2 : Vec Ideal S2048x3 .f32) (x3 : Vec Ideal S128x64 .f32) (x4 : Vec Ideal S3x64 .f32) (x5 : Vec Ideal S1x64 .f32)
    (s : Vec Ideal S2x64 .f32) (o : Fin 64) :
    k1_pay2 x1 x3 x2 x4 x5 s (ix2 1 o) = s (ix2 1 o) + ∑ i : Fin 2048, k2_pay10 x1 x3 x2 x4 x5 (ix2 i o) * k2_pay10 x1 x3 x2 x4 x5 (ix2 i o) := by
  simp only [first_layer]
  pointwise [k1_pay2]

theorem stat_start (r : Fin 2) (o : Fin 64) : k1_pay1 (F := Ideal) (ix2 r o) = 0 := by
  pointwise [k1_pay1]

theorem mean_apply (v0 : Vec Ideal S1x64 .f32) (o : Fin 64) : k2_pay7 v0 (ix2 0 o) = Ideal.div (v0 (ix2 0 o)) (Ideal.ofBits .f32 0x48800000#32) := by
  pointwise [k2_pay7]

theorem slope_apply (v0 v2 g : Vec Ideal S1x64 .f32) (o : Fin 64) :
    k2_pay8 v0 v2 g (ix2 0 o) = g (ix2 0 o) * Ideal.rsqrt (Ideal.div (v2 (ix2 0 o)) (Ideal.ofBits .f32 0x48800000#32)
      - Ideal.div (v0 (ix2 0 o)) (Ideal.ofBits .f32 0x48800000#32) * Ideal.div (v0 (ix2 0 o)) (Ideal.ofBits .f32 0x48800000#32)
      + Ideal.ofBits .f32 0x3727C5AC#32) := by
  pointwise [k2_pay8, k2_pay7]

theorem offset_apply (v0 v2 g b : Vec Ideal S1x64 .f32) (o : Fin 64) :
    k2_pay9 v0 v2 g b (ix2 0 o) = b (ix2 0 o) - k2_pay7 v0 (ix2 0 o) * k2_pay8 v0 v2 g (ix2 0 o) := by
  pointwise [k2_pay9]

theorem slopes_apply (v0 v2 g : Vec Ideal S1x64 .f32) (i : Fin 2048) (o : Fin 64) : k2_pay11 v0 v2 g (ix2 i o) = k2_pay8 v0 v2 g (ix2 0 o) := by
  pointwise [k2_pay11]

/-- An entry of the second layer. -/
theorem second_layer (d : Vec Ideal S1x64 .f32) (y a : Vec Ideal S2048x64 .f32) (w : Vec Ideal S64x128 .f32) (b : Vec Ideal S1x128 .f32) (i : Fin 2048) (o : Fin 128) :
    k2_pay1 d y a w b (ix2 i o) = ∑ x : Fin 64, max (y (ix2 i x) * a (ix2 i x) + d (ix2 0 x)) 0 * w (ix2 x o) + b (ix2 0 o) := by
  pointwise [k2_pay1]

theorem layer_step0 (d : Vec Ideal S1x64 .f32) (y a : Vec Ideal S2048x64 .f32) (w : Vec Ideal S64x128 .f32) (b : Vec Ideal S1x128 .f32) (s : Vec Ideal S2x128 .f32) (o : Fin 128) :
    k2_pay3 d y a w b s (ix2 0 o) = s (ix2 0 o) + ∑ i : Fin 2048, k2_pay1 d y a w b (ix2 i o) := by
  pointwise [k2_pay3]

theorem layer_step1 (d : Vec Ideal S1x64 .f32) (y a : Vec Ideal S2048x64 .f32) (w : Vec Ideal S64x128 .f32) (b : Vec Ideal S1x128 .f32) (s : Vec Ideal S2x128 .f32) (o : Fin 128) :
    k2_pay3 d y a w b s (ix2 1 o) = s (ix2 1 o) + ∑ i : Fin 2048, k2_pay1 d y a w b (ix2 i o) * k2_pay1 d y a w b (ix2 i o) := by
  pointwise [k2_pay3]

theorem layer_start (r : Fin 2) (o : Fin 128) : k2_pay2 (F := Ideal) (ix2 r o) = 0 := by
  pointwise [k2_pay2]

theorem layer_max (d : Vec Ideal S1x64 .f32) (y a : Vec Ideal S2048x64 .f32) (w : Vec Ideal S64x128 .f32) (b : Vec Ideal S1x128 .f32) (j : Fin 64) (o : Fin 128) :
    k2_pay5 d y a w b (ix2 j o) = Finset.univ.fold max ⊥ fun k : Fin 32 => k2_pay1 d y a w b (ix2 ⟨j.val * 32 + k.val, by omega⟩ o) := by
  pointwise [k2_pay5, k2_pay4]
  rw [word_bot]

theorem layer_min (d : Vec Ideal S1x64 .f32) (y a : Vec Ideal S2048x64 .f32) (w : Vec Ideal S64x128 .f32) (b : Vec Ideal S1x128 .f32) (j : Fin 64) (o : Fin 128) :
    k2_pay6 d y a w b (ix2 j o) = Finset.univ.fold min ⊤ fun k : Fin 32 => k2_pay1 d y a w b (ix2 ⟨j.val * 32 + k.val, by omega⟩ o) := by
  pointwise [k2_pay6, k2_pay4]
  rw [word_top]

/-! ## On real arguments -/

/-- The factor of a channel, from its two sums. -/
theorem slope_real (Y : Fin 8192 → Fin 32 → ℝ) (g : ℝ) :
    (g : EReal) * Ideal.rsqrt (Ideal.div ((total fun a k => Y a k * Y a k : ℝ) : EReal) (Ideal.ofBits .f32 0x48800000#32)
      - Ideal.div ((total Y : ℝ) : EReal) (Ideal.ofBits .f32 0x48800000#32) * Ideal.div ((total Y : ℝ) : EReal) (Ideal.ofBits .f32 0x48800000#32)
      + Ideal.ofBits .f32 0x3727C5AC#32) = ((scale Y g : ℝ) : EReal) := by
  rw [word_n, word_eps, div_real _ (by norm_num), div_real _ (by norm_num), ← EReal.coe_mul, ← EReal.coe_sub]
  rw [show total (fun a k => Y a k * Y a k) / 262144 - total Y / 262144 * (total Y / 262144) = var Y from var_eq Y,
    ← EReal.coe_add, rsqrt_real (var_eps_pos Y), ← EReal.coe_mul]
  rfl

theorem mean_real (Y : Fin 8192 → Fin 32 → ℝ) : Ideal.div ((total Y : ℝ) : EReal) (Ideal.ofBits .f32 0x48800000#32) = ((mean Y : ℝ) : EReal) := by
  rw [word_n, div_real _ (by norm_num)]
  rfl

section First

variable (s0 s1 g b : Vec Ideal S1x64 .f32) (o : Fin 64) (Y : Fin 8192 → Fin 32 → ℝ) (gR beR : ℝ) (h0 : s0 (ix2 0 o) = ((total Y : ℝ) : EReal))
  (h1 : s1 (ix2 0 o) = ((total fun a k => Y a k * Y a k : ℝ) : EReal)) (hg : g (ix2 0 o) = (gR : EReal)) (hb : b (ix2 0 o) = (beR : EReal))
include h0 h1 hg

theorem first_slope : k2_pay8 s0 s1 g (ix2 0 o) = ((scale Y gR : ℝ) : EReal) := by
  rw [slope_apply, h0, h1, hg, slope_real]

include hb

theorem first_offset : k2_pay9 s0 s1 g b (ix2 0 o) = ((beR - mean Y * scale Y gR : ℝ) : EReal) := by
  rw [offset_apply, mean_apply, first_slope s0 s1 g o Y gR h0 h1 hg, h0, mean_real, hb, ← EReal.coe_mul, ← EReal.coe_sub]

end First

/-- An entry of the second layer, from the first layer's entries of its row. -/
theorem second_real (s0 s1 g be : Vec Ideal S1x64 .f32) (y : Vec Ideal S2048x64 .f32) (w : Vec Ideal S64x128 .f32) (b : Vec Ideal S1x128 .f32) (i : Fin 2048) (o : Fin 128)
    (Y : Fin 64 → Fin 8192 → Fin 32 → ℝ) (gR beR wR : Fin 64 → ℝ) (bR : ℝ) (a : Fin 8192) (k : Fin 32)
    (h0 : ∀ x, s0 (ix2 0 x) = ((total (Y x) : ℝ) : EReal)) (h1 : ∀ x, s1 (ix2 0 x) = ((total fun a k => Y x a k * Y x a k : ℝ) : EReal))
    (hg : ∀ x, g (ix2 0 x) = (gR x : EReal)) (hbe : ∀ x, be (ix2 0 x) = (beR x : EReal)) (hw : ∀ x, w (ix2 x o) = (wR x : EReal)) (hb : b (ix2 0 o) = (bR : EReal))
    (hy : ∀ x, y (ix2 i x) = (Y x a k : EReal)) :
    k2_pay1 (k2_pay9 s0 s1 g be) y (k2_pay11 s0 s1 g) w b (ix2 i o) = ((∑ x, act (Y x) (gR x) (beR x) a k * wR x + bR : ℝ) : EReal) := by
  rw [second_layer, hb, EReal.coe_add, ← coe_sum]
  refine congrArg (· + (bR : EReal)) (Finset.sum_congr rfl fun x _ => ?_)
  rw [hy, slopes_apply, first_slope s0 s1 g x (Y x) (gR x) (h0 x) (h1 x) (hg x), first_offset s0 s1 g be x (Y x) (gR x) (beR x) (h0 x) (h1 x) (hg x) (hbe x), hw,
    ← EReal.coe_mul (Y x a k), ← EReal.coe_add, show (0 : EReal) = ((0 : ℝ) : EReal) from rfl, coe_max, ← EReal.coe_mul]
  rfl

/-- An entry of the last call's block: the greatest over the neighbours of the normalised second layer, cut at zero. -/
theorem final_real (s0 s1 g b : Vec Ideal S1x128 .f32) (u v : Vec Ideal S1024x128 .f32) (j : Fin 1024) (o : Fin 128)
    (Y : Fin 8192 → Fin 32 → ℝ) (gR : ℝ) (a : Fin 8192)
    (h0 : s0 (ix2 0 o) = ((total Y : ℝ) : EReal)) (h1 : s1 (ix2 0 o) = ((total fun a k => Y a k * Y a k : ℝ) : EReal)) (hg : g (ix2 0 o) = (gR : EReal))
    (hu : u (ix2 j o) = Finset.univ.fold max ⊥ fun k : Fin 32 => (Y a k : EReal)) (hv : v (ix2 j o) = Finset.univ.fold min ⊤ fun k : Fin 32 => (Y a k : EReal)) :
    k3_pay1 s0 s1 g b u v (ix2 j o)
      = Finset.univ.fold max ⊥ fun k : Fin 32 => max ((Y a k : EReal) * (scale Y gR : EReal) + (b (ix2 0 o) - ((mean Y * scale Y gR : ℝ) : EReal))) 0 := by
  pointwise [k3_pay1]
  rw [h0, h1, hg, slope_real, mean_real, hu, hv, ← EReal.coe_mul]
  split
  · rename_i h
    exact max_scaled (Y a) _ (EReal.coe_nonneg.1 h) _
  · rename_i h
    exact min_scaled (Y a) _ (le_of_lt (not_le.1 fun h' => h (EReal.coe_nonneg.2 h'))) _

end Cert.Proof.Pay

end
-- ==== Proof.Blocks.lean ====
/-
  The tensor-core calls' blocks at an index of the arrays they come from, and what the calls leave in the arrays:
  sums over all the rows, extremes over each centre's 32 rows, and the normalised second layer's group maximum.
-/
module

public import proofs.«01_k».proof.Proof.Regs
public import proofs.«01_k».proof.Proof.Pay
public import Idealize.ShloMosaic.Lib.Pipeline.ValueKit

@[expose] public section

noncomputable section

namespace Cert.Proof.Blocks

open Cert.KernelIdeal Cert.KernelIdeal.Gen
open Idealize.ShloMosaic Idealize.ShloMosaic.TcCoe Idealize.ShloMosaic.Pipeline
open Cert.Proof.Norm Cert.Proof.Pay
open scoped BigOperators

/-! ## Sums by blocks -/

theorem sum_blocks (g : ℕ → ℝ) (n : ℕ) : ∀ m, ∑ t ∈ Finset.range m, ∑ i : Fin n, g (t * n + i.val) = ∑ x ∈ Finset.range (m * n), g x
  | 0 => by simp
  | m + 1 => by
    rw [Finset.sum_range_succ, sum_blocks g n m, Nat.succ_mul, Finset.sum_range_add, Finset.sum_range fun i => g (m * n + i)]

/-- The entry of row `n`: centre `n / 32`, neighbour `n % 32`. -/
def point (y : Fin 8192 → Fin 32 → ℝ) (n : ℕ) : ℝ := if h : n < 262144 then y ⟨n / 32, by omega⟩ ⟨n % 32, by omega⟩ else 0

theorem point_of (y : Fin 8192 → Fin 32 → ℝ) (a : Fin 8192) (k : Fin 32) (n : ℕ) (h : n = a.val * 32 + k.val) : point y n = y a k := by
  have hn : n < 262144 := by omega
  rw [point, dif_pos hn, show (⟨n / 32, by omega⟩ : Fin 8192) = a from Fin.ext (by show n / 32 = a.val; omega),
    show (⟨n % 32, by omega⟩ : Fin 32) = k from Fin.ext (by show n % 32 = k.val; omega)]

theorem total_blocks (y : Fin 8192 → Fin 32 → ℝ) : ∑ t ∈ Finset.range 128, ∑ i : Fin 2048, point y (t * 2048 + i.val) = total y := by
  rw [sum_blocks (point y) 2048 128, show 128 * 2048 = 8192 * 32 from rfl, ← sum_blocks (point y) 32 8192,
    Finset.sum_range fun t => ∑ i : Fin 32, point y (t * 32 + i.val)]
  exact Finset.sum_congr rfl fun a _ => Finset.sum_congr rfl fun k _ => point_of y a k _ rfl

theorem point_sq (y : Fin 8192 → Fin 32 → ℝ) (n : ℕ) : point (fun a k => y a k * y a k) n = point y n * point y n := by
  unfold point
  split <;> simp

variable (V : (c : Dev nD) → (b : Ref sig .tc) → Buf (Elt Ideal) ((c : Thread nD τ).loc b)) (d : Dev nD)

/-- The arrays of the calls. -/
abbrev gathered : Vec Ideal S262144x128 .f32 := V d main_v15
abbrev repeated : Vec Ideal S262144x3 .f32 := V d main_v33
abbrev weights : Vec Ideal S128x64 .f32 := V d main_v21
abbrev shifts : Vec Ideal S3x64 .f32 := V d main_v23
abbrev bias : Vec Ideal S1x64 .f32 := V d main_v25
abbrev gain1 : Vec Ideal S1x64 .f32 := V d main_v26
abbrev offset1 : Vec Ideal S1x64 .f32 := V d main_v27
abbrev sums1 : Vec Ideal S2x64 .f32 := V d main_v34
abbrev weights2 : Vec Ideal S64x128 .f32 := V d main_v24
abbrev bias2 : Vec Ideal S1x128 .f32 := V d main_v28
abbrev gain2 : Vec Ideal S1x128 .f32 := V d main_v29
abbrev offset2 : Vec Ideal S1x128 .f32 := V d main_v30
abbrev sums2 : Vec Ideal S2x128 .f32 := V d main_v35_0
abbrev most : Vec Ideal S8192x128 .f32 := V d main_v35_1
abbrev least : Vec Ideal S8192x128 .f32 := V d main_v35_2

/-- The first layer at row `n`. -/
def row (n : Fin 262144) (o : Fin 64) : EReal :=
  ∑ x : Fin 128, gathered V d (ix2 n x) * weights V d (ix2 x o) - ∑ x : Fin 3, repeated V d (ix2 n x) * shifts V d (ix2 x o) + bias V d (ix2 0 o)

/-! ## The first call -/

theorem lt1 (t : Fin cfg1.N) : t.val < 128 := Nat.lt_of_lt_of_eq t.isLt N_1

theorem at1 : ∀ t : Fin cfg1.N, win1_0.index t = ![t.val, 0] ∧ win1_1.index t = ![t.val, 0] ∧ win1_2.index t = ![0, 0] ∧ win1_3.index t = ![0, 0]
    ∧ win1_4.index t = ![0, 0] ∧ win1_5.index t = ![0, 0] :=
  (by decide +kernel : ∀ t : Fin grid1.N, _)

section Call1

variable (t : Fin cfg1.N)

theorem stat_0 (i : Fin 2048) (x : Fin 128) (n : Fin 262144) (h : n.val = t.val * 2048 + i.val) : Stats.blk V d 0 t (ix2 i x) = gathered V d (ix2 n x) := by
  show V d main_v15 (((cfg1.win 0).blk t).view.emb (ix2 i x)) = _
  refine congrArg (V d main_v15) (funext fun a => Fin.ext ?_)
  match a with
  | ⟨0, _⟩ => blk_simp [at1 t]; show t.val * 2048 + i.val = n.val; omega
  | ⟨1, _⟩ => blk_simp [at1 t]

theorem stat_1 (i : Fin 2048) (x : Fin 3) (n : Fin 262144) (h : n.val = t.val * 2048 + i.val) : Stats.blk V d 1 t (ix2 i x) = repeated V d (ix2 n x) := by
  show V d main_v33 (((cfg1.win 1).blk t).view.emb (ix2 i x)) = _
  refine congrArg (V d main_v33) (funext fun a => Fin.ext ?_)
  match a with
  | ⟨0, _⟩ => blk_simp [at1 t]; show t.val * 2048 + i.val = n.val; omega
  | ⟨1, _⟩ => blk_simp [at1 t]

theorem stat_2 : Stats.blk V d 2 t = weights V d := by
  funext j
  show V d main_v21 (((cfg1.win 2).blk t).view.emb j) = _
  refine congrArg (V d main_v21) (funext fun a => Fin.ext ?_)
  match a with
  | ⟨0, _⟩ => blk_simp [at1 t]
  | ⟨1, _⟩ => blk_simp [at1 t]

theorem stat_3 : Stats.blk V d 3 t = shifts V d := by
  funext j
  show V d main_v23 (((cfg1.win 3).blk t).view.emb j) = _
  refine congrArg (V d main_v23) (funext fun a => Fin.ext ?_)
  match a with
  | ⟨0, _⟩ => blk_simp [at1 t]
  | ⟨1, _⟩ => blk_simp [at1 t]

theorem stat_4 : Stats.blk V d 4 t = bias V d := by
  funext j
  show V d main_v25 (((cfg1.win 4).blk t).view.emb j) = _
  refine congrArg (V d main_v25) (funext fun a => Fin.ext ?_)
  match a with
  | ⟨0, _⟩ => blk_simp [at1 t]
  | ⟨1, _⟩ => blk_simp [at1 t]

/-- The first layer's entries of the block are the rows'. -/
theorem stat_row (i : Fin 2048) (o : Fin 64) (n : Fin 262144) (h : n.val = t.val * 2048 + i.val) :
    k2_pay10 (Stats.blk V d 0 t) (Stats.blk V d 2 t) (Stats.blk V d 1 t) (Stats.blk V d 3 t) (Stats.blk V d 4 t) (ix2 i o) = row V d n o := by
  refine (first_layer _ _ _ _ _ i o).trans ?_
  rw [stat_2, stat_3, stat_4]
  simp only [fun x => stat_0 V d t i x n h, fun x => stat_1 V d t i x n h]
  rfl

end Call1

/-- The sums over the rows up to block `n`, on real rows. -/
theorem stat_sums (Y : Fin 64 → Fin 8192 → Fin 32 → ℝ) (hy : ∀ (n : Fin 262144) o, row V d n o = (point (Y o) n.val : EReal)) (o : Fin 64) (n : ℕ) (h : n < cfg1.N) :
    Stats.sums V d n h (ix2 0 o) = ((∑ t ∈ Finset.range (n + 1), ∑ i : Fin 2048, point (Y o) (t * 2048 + i.val) : ℝ) : EReal)
    ∧ Stats.sums V d n h (ix2 1 o) = ((∑ t ∈ Finset.range (n + 1), ∑ i : Fin 2048, point (Y o) (t * 2048 + i.val) * point (Y o) (t * 2048 + i.val) : ℝ) : EReal) := by
  have e (t : Fin cfg1.N) (i : Fin 2048) := (stat_row V d t i o ⟨t.val * 2048 + i.val, by have := lt1 t; omega⟩ rfl).trans (hy _ o)
  have s0 (t : Fin cfg1.N) (s : Vec Ideal S2x64 .f32) : Stats.step V d t s (ix2 0 o) = s (ix2 0 o) + ((∑ i : Fin 2048, point (Y o) (t.val * 2048 + i.val) : ℝ) : EReal) := by
    refine (stat_step0 _ _ _ _ _ s o).trans ?_
    rw [← coe_sum]
    exact congrArg (s (ix2 0 o) + ·) (Finset.sum_congr rfl fun i _ => e t i)
  have s1 (t : Fin cfg1.N) (s : Vec Ideal S2x64 .f32) :
      Stats.step V d t s (ix2 1 o) = s (ix2 1 o) + ((∑ i : Fin 2048, point (Y o) (t.val * 2048 + i.val) * point (Y o) (t.val * 2048 + i.val) : ℝ) : EReal) := by
    refine (stat_step1 _ _ _ _ _ s o).trans ?_
    rw [← coe_sum]
    exact congrArg (s (ix2 1 o) + ·) (Finset.sum_congr rfl fun i _ => by rw [e t i, EReal.coe_mul])
  induction n with
  | zero =>
    refine ⟨(s0 ⟨0, h⟩ _).trans ?_, (s1 ⟨0, h⟩ _).trans ?_⟩ <;> rw [stat_start, zero_add, Finset.sum_range_one]
  | succ n ih =>
    obtain ⟨i0, i1⟩ := ih (Nat.lt_of_succ_lt h) e
    refine ⟨(s0 ⟨n + 1, h⟩ _).trans ?_, (s1 ⟨n + 1, h⟩ _).trans ?_⟩
    · rw [i0, ← EReal.coe_add, Finset.sum_range_succ _ (n + 1)]
    · rw [i1, ← EReal.coe_add, Finset.sum_range_succ _ (n + 1)]

/-- The last point of the 128. -/
abbrev last1 : Fin cfg1.N := ⟨127, by rw [show cfg1.N = 128 from N_1]; omega⟩

/-- The array the first call leaves: the sums after the last block. -/
theorem stat_left : (Stats.dat V d).arrAt 5 cfg1.N = Stats.sums V d 127 last1.isLt := by
  refine (Stats.dat V d).arrAt_eq_of_after_last 5 last1 (by decide +kernel) _ fun j => ?_
  blk_simp
  rw [Stats.after_5]

/-! ## The second call -/

theorem lt2 (t : Fin cfg2.N) : t.val < 128 := Nat.lt_of_lt_of_eq t.isLt N_2

theorem at2 : ∀ t : Fin cfg2.N, win2_0.index t = ![t.val, 0] ∧ win2_1.index t = ![t.val, 0] ∧ win2_2.index t = ![0, 0] ∧ win2_3.index t = ![0, 0]
    ∧ win2_4.index t = ![0, 0] ∧ win2_5.index t = ![0, 0] ∧ win2_6.index t = ![0, 0] ∧ win2_7.index t = ![0, 0] ∧ win2_8.index t = ![0, 0]
    ∧ win2_9.index t = ![0, 0] ∧ win2_10.index t = ![0, 0] ∧ win2_11.index t = ![t.val, 0] ∧ win2_12.index t = ![t.val, 0] :=
  (by decide +kernel : ∀ t : Fin grid2.N, _)

section Call2

variable (t : Fin cfg2.N)

theorem layer_0 (i : Fin 2048) (x : Fin 128) (n : Fin 262144) (h : n.val = t.val * 2048 + i.val) : Layer.blk V d 0 t (ix2 i x) = gathered V d (ix2 n x) := by
  show V d main_v15 (((cfg2.win 0).blk t).view.emb (ix2 i x)) = _
  refine congrArg (V d main_v15) (funext fun a => Fin.ext ?_)
  match a with
  | ⟨0, _⟩ => blk_simp [at2 t]; show t.val * 2048 + i.val = n.val; omega
  | ⟨1, _⟩ => blk_simp [at2 t]

theorem layer_1 (i : Fin 2048) (x : Fin 3) (n : Fin 262144) (h : n.val = t.val * 2048 + i.val) : Layer.blk V d 1 t (ix2 i x) = repeated V d (ix2 n x) := by
  show V d main_v33 (((cfg2.win 1).blk t).view.emb (ix2 i x)) = _
  refine congrArg (V d main_v33) (funext fun a => Fin.ext ?_)
  match a with
  | ⟨0, _⟩ => blk_simp [at2 t]; show t.val * 2048 + i.val = n.val; omega
  | ⟨1, _⟩ => blk_simp [at2 t]

theorem layer_2 : Layer.blk V d 2 t = weights V d := by
  funext j
  show V d main_v21 (((cfg2.win 2).blk t).view.emb j) = _
  refine congrArg (V d main_v21) (funext fun a => Fin.ext ?_)
  match a with
  | ⟨0, _⟩ => blk_simp [at2 t]
  | ⟨1, _⟩ => blk_simp [at2 t]

theorem layer_3 : Layer.blk V d 3 t = shifts V d := by
  funext j
  show V d main_v23 (((cfg2.win 3).blk t).view.emb j) = _
  refine congrArg (V d main_v23) (funext fun a => Fin.ext ?_)
  match a with
  | ⟨0, _⟩ => blk_simp [at2 t]
  | ⟨1, _⟩ => blk_simp [at2 t]

theorem layer_4 : Layer.blk V d 4 t = bias V d := by
  funext j
  show V d main_v25 (((cfg2.win 4).blk t).view.emb j) = _
  refine congrArg (V d main_v25) (funext fun a => Fin.ext ?_)
  match a with
  | ⟨0, _⟩ => blk_simp [at2 t]
  | ⟨1, _⟩ => blk_simp [at2 t]

theorem layer_5 : Layer.blk V d 5 t = gain1 V d := by
  funext j
  show V d main_v26 (((cfg2.win 5).blk t).view.emb j) = _
  refine congrArg (V d main_v26) (funext fun a => Fin.ext ?_)
  match a with
  | ⟨0, _⟩ => blk_simp [at2 t]
  | ⟨1, _⟩ => blk_simp [at2 t]

theorem layer_6 : Layer.blk V d 6 t = offset1 V d := by
  funext j
  show V d main_v27 (((cfg2.win 6).blk t).view.emb j) = _
  refine congrArg (V d main_v27) (funext fun a => Fin.ext ?_)
  match a with
  | ⟨0, _⟩ => blk_simp [at2 t]
  | ⟨1, _⟩ => blk_simp [at2 t]

theorem layer_7 : Layer.blk V d 7 t = sums1 V d := by
  funext j
  show V d main_v34 (((cfg2.win 7).blk t).view.emb j) = _
  refine congrArg (V d main_v34) (funext fun a => Fin.ext ?_)
  match a with
  | ⟨0, _⟩ => blk_simp [at2 t]
  | ⟨1, _⟩ => blk_simp [at2 t]

theorem layer_8 : Layer.blk V d 8 t = weights2 V d := by
  funext j
  show V d main_v24 (((cfg2.win 8).blk t).view.emb j) = _
  refine congrArg (V d main_v24) (funext fun a => Fin.ext ?_)
  match a with
  | ⟨0, _⟩ => blk_simp [at2 t]
  | ⟨1, _⟩ => blk_simp [at2 t]

theorem layer_9 : Layer.blk V d 9 t = bias2 V d := by
  funext j
  show V d main_v28 (((cfg2.win 9).blk t).view.emb j) = _
  refine congrArg (V d main_v28) (funext fun a => Fin.ext ?_)
  match a with
  | ⟨0, _⟩ => blk_simp [at2 t]
  | ⟨1, _⟩ => blk_simp [at2 t]

/-- The first layer's entries of the block are the rows'. -/
theorem layer_row (i : Fin 2048) (o : Fin 64) (n : Fin 262144) (h : n.val = t.val * 2048 + i.val) :
    k2_pay10 (Layer.blk V d 0 t) (Layer.blk V d 2 t) (Layer.blk V d 1 t) (Layer.blk V d 3 t) (Layer.blk V d 4 t) (ix2 i o) = row V d n o := by
  refine (first_layer _ _ _ _ _ i o).trans ?_
  rw [layer_2, layer_3, layer_4]
  simp only [fun x => layer_0 V d t i x n h, fun x => layer_1 V d t i x n h]
  rfl

/-- The second layer on the block. -/
def inner : Vec Ideal S2048x128 .f32 :=
  k2_pay1 (k2_pay9 (Layer.row0 (Layer.blk V d 7 t)) (Layer.row1 (Layer.blk V d 7 t)) (Layer.blk V d 5 t) (Layer.blk V d 6 t))
    (k2_pay10 (Layer.blk V d 0 t) (Layer.blk V d 2 t) (Layer.blk V d 1 t) (Layer.blk V d 3 t) (Layer.blk V d 4 t))
    (k2_pay11 (Layer.row0 (Layer.blk V d 7 t)) (Layer.row1 (Layer.blk V d 7 t)) (Layer.blk V d 5 t)) (Layer.blk V d 8 t) (Layer.blk V d 9 t)

end Call2

/-- The second layer from the first's entries `Y`, normalised and offset channel by channel. -/
def second (Y : Fin 64 → Fin 8192 → Fin 32 → ℝ) (gR beR : Fin 64 → ℝ) (wR : Fin 128 → Fin 64 → ℝ) (bR : Fin 128 → ℝ) (o : Fin 128) (a : Fin 8192) (k : Fin 32) : ℝ :=
  ∑ x, act (Y x) (gR x) (beR x) a k * wR o x + bR o

section Second

variable (Y : Fin 64 → Fin 8192 → Fin 32 → ℝ) (gR beR : Fin 64 → ℝ) (wR : Fin 128 → Fin 64 → ℝ) (bR : Fin 128 → ℝ)
  (hy : ∀ (n : Fin 262144) o, row V d n o = (point (Y o) n.val : EReal))
  (h0 : ∀ o, sums1 V d (ix2 0 o) = ((total (Y o) : ℝ) : EReal)) (h1 : ∀ o, sums1 V d (ix2 1 o) = ((total fun a k => Y o a k * Y o a k : ℝ) : EReal))
  (hg : ∀ o, gain1 V d (ix2 0 o) = (gR o : EReal)) (hbe : ∀ o, offset1 V d (ix2 0 o) = (beR o : EReal))
  (hw : ∀ o x, weights2 V d (ix2 x o) = (wR o x : EReal)) (hb : ∀ o, bias2 V d (ix2 0 o) = (bR o : EReal))
include hy h0 h1 hg hbe hw hb

theorem inner_real (t : Fin cfg2.N) (i : Fin 2048) (o : Fin 128) :
    inner V d t (ix2 i o) = (point (second Y gR beR wR bR o) (t.val * 2048 + i.val) : EReal) := by
  have ht := lt2 t
  have e (y : Fin 8192 → Fin 32 → ℝ) := point_of y ⟨(t.val * 2048 + i.val) / 32, by omega⟩ ⟨(t.val * 2048 + i.val) % 32, by omega⟩ (t.val * 2048 + i.val)
    (by show _ = (t.val * 2048 + i.val) / 32 * 32 + (t.val * 2048 + i.val) % 32; omega)
  rw [e]
  unfold inner
  rw [layer_5, layer_6, layer_7, layer_8, layer_9]
  exact second_real _ _ _ _ _ _ _ i o Y gR beR (wR o) (bR o) _ _ (fun x => (stat_row0 _ x).trans (h0 x)) (fun x => (stat_row1 _ x).trans (h1 x)) hg hbe (hw o) (hb o)
    fun x => (layer_row V d t i x ⟨t.val * 2048 + i.val, by omega⟩ rfl).trans ((hy _ x).trans (congrArg _ (e (Y x))))

/-- The second layer's sums over the rows up to block `n`. -/
theorem layer_sums (o : Fin 128) (n : ℕ) (h : n < cfg2.N) :
    Layer.sums V d n h (ix2 0 o) = ((∑ t ∈ Finset.range (n + 1), ∑ i : Fin 2048, point (second Y gR beR wR bR o) (t * 2048 + i.val) : ℝ) : EReal)
    ∧ Layer.sums V d n h (ix2 1 o)
      = ((∑ t ∈ Finset.range (n + 1), ∑ i : Fin 2048, point (second Y gR beR wR bR o) (t * 2048 + i.val) * point (second Y gR beR wR bR o) (t * 2048 + i.val) : ℝ) : EReal) := by
  have e (t : Fin cfg2.N) (i : Fin 2048) := inner_real V d Y gR beR wR bR hy h0 h1 hg hbe hw hb t i o
  have s0 (t : Fin cfg2.N) (s : Vec Ideal S2x128 .f32) :
      Layer.step V d t s (ix2 0 o) = s (ix2 0 o) + ((∑ i : Fin 2048, point (second Y gR beR wR bR o) (t.val * 2048 + i.val) : ℝ) : EReal) := by
    refine (layer_step0 _ _ _ _ _ s o).trans ?_
    rw [← coe_sum]
    exact congrArg (s (ix2 0 o) + ·) (Finset.sum_congr rfl fun i _ => e t i)
  have s1 (t : Fin cfg2.N) (s : Vec Ideal S2x128 .f32) :
      Layer.step V d t s (ix2 1 o)
        = s (ix2 1 o) + ((∑ i : Fin 2048, point (second Y gR beR wR bR o) (t.val * 2048 + i.val) * point (second Y gR beR wR bR o) (t.val * 2048 + i.val) : ℝ) : EReal) := by
    refine (layer_step1 _ _ _ _ _ s o).trans ?_
    rw [← coe_sum]
    refine congrArg (s (ix2 1 o) + ·) (Finset.sum_congr rfl fun i _ => ?_)
    rw [EReal.coe_mul, ← e t i]
    rfl
  induction n with
  | zero =>
    refine ⟨(s0 ⟨0, h⟩ _).trans ?_, (s1 ⟨0, h⟩ _).trans ?_⟩ <;> rw [layer_start, zero_add, Finset.sum_range_one]
  | succ n ih =>
    obtain ⟨i0, i1⟩ := ih (Nat.lt_of_succ_lt h)
    refine ⟨(s0 ⟨n + 1, h⟩ _).trans ?_, (s1 ⟨n + 1, h⟩ _).trans ?_⟩
    · rw [i0, ← EReal.coe_add, Finset.sum_range_succ _ (n + 1)]
    · rw [i1, ← EReal.coe_add, Finset.sum_range_succ _ (n + 1)]

/-- The block's largest entry over each centre's rows, -/
theorem most_real (t : Fin cfg2.N) (j : Fin 64) (o : Fin 128) (a : Fin 8192) (h : a.val = t.val * 64 + j.val) :
    Layer.most V d t (ix2 j o) = Finset.univ.fold max ⊥ fun k : Fin 32 => (second Y gR beR wR bR o a k : EReal) := by
  unfold Layer.most Layer.maxOf
  rw [layer_max]
  refine Finset.fold_congr fun k _ => ?_
  exact (inner_real V d Y gR beR wR bR hy h0 h1 hg hbe hw hb t _ o).trans
    (congrArg _ (point_of _ a k _ (by show t.val * 2048 + (j.val * 32 + k.val) = _; omega)))

/-- and the smallest. -/
theorem least_real (t : Fin cfg2.N) (j : Fin 64) (o : Fin 128) (a : Fin 8192) (h : a.val = t.val * 64 + j.val) :
    Layer.least V d t (ix2 j o) = Finset.univ.fold min ⊤ fun k : Fin 32 => (second Y gR beR wR bR o a k : EReal) := by
  unfold Layer.least Layer.minOf
  rw [layer_min]
  refine Finset.fold_congr fun k _ => ?_
  exact (inner_real V d Y gR beR wR bR hy h0 h1 hg hbe hw hb t _ o).trans
    (congrArg _ (point_of _ a k _ (by show t.val * 2048 + (j.val * 32 + k.val) = _; omega)))

end Second

abbrev last2 : Fin cfg2.N := ⟨127, by rw [show cfg2.N = 128 from N_2]; omega⟩

theorem layer_left_sums : (Layer.dat V d).arrAt 10 cfg2.N = Layer.sums V d 127 last2.isLt := by
  refine (Layer.dat V d).arrAt_eq_of_after_last 10 last2 (by decide +kernel) _ fun j => ?_
  blk_simp
  rw [Layer.after_10]

/-- What the second call leaves of the block maxima, -/
theorem layer_left_most (G : Vec Ideal S8192x128 .f32)
    (h : ∀ (t : Fin cfg2.N) (j : Fin 64) (o : Fin 128) (a : Fin 8192), a.val = t.val * 64 + j.val → Layer.most V d t (ix2 j o) = G (ix2 a o)) :
    (Layer.dat V d).arrAt 11 cfg2.N = G := by
  refine (Layer.dat V d).arrAt_eq_of_covers 11 _ (by decide +kernel) fun t _ y => ?_
  rw [Layer.after_11]
  have ht := lt2 t
  obtain ⟨j, hj⟩ : ∃ j : Fin 64, j.val = (y 0).val := ⟨⟨(y 0).val, (y 0).isLt⟩, rfl⟩
  have e1 : ((cfg2.win 11).blk t).view.emb y = ix2 ⟨t.val * 64 + j.val, by omega⟩ (y 1) := by
    funext a
    refine Fin.ext ?_
    match a with
    | ⟨0, _⟩ => blk_simp [at2 t]; exact congrArg (t.val * 64 + ·) hj.symm
    | ⟨1, _⟩ => blk_simp [at2 t]; rfl
  have e2 : (cfg2.win 11).xinj (cfg2.grid.coords t) y = ix2 j (y 1) := by
    funext a
    refine Fin.ext ?_
    match a with
    | ⟨0, _⟩ => exact hj.symm
    | ⟨1, _⟩ => rfl
  rw [e1, e2, cast_eq]
  exact h t j (y 1) _ rfl

/-- and of the block minima. -/
theorem layer_left_least (G : Vec Ideal S8192x128 .f32)
    (h : ∀ (t : Fin cfg2.N) (j : Fin 64) (o : Fin 128) (a : Fin 8192), a.val = t.val * 64 + j.val → Layer.least V d t (ix2 j o) = G (ix2 a o)) :
    (Layer.dat V d).arrAt 12 cfg2.N = G := by
  refine (Layer.dat V d).arrAt_eq_of_covers 12 _ (by decide +kernel) fun t _ y => ?_
  rw [Layer.after_12]
  have ht := lt2 t
  obtain ⟨j, hj⟩ : ∃ j : Fin 64, j.val = (y 0).val := ⟨⟨(y 0).val, (y 0).isLt⟩, rfl⟩
  have e1 : ((cfg2.win 12).blk t).view.emb y = ix2 ⟨t.val * 64 + j.val, by omega⟩ (y 1) := by
    funext a
    refine Fin.ext ?_
    match a with
    | ⟨0, _⟩ => blk_simp [at2 t]; exact congrArg (t.val * 64 + ·) hj.symm
    | ⟨1, _⟩ => blk_simp [at2 t]; rfl
  have e2 : (cfg2.win 12).xinj (cfg2.grid.coords t) y = ix2 j (y 1) := by
    funext a
    refine Fin.ext ?_
    match a with
    | ⟨0, _⟩ => exact hj.symm
    | ⟨1, _⟩ => rfl
  rw [e1, e2, cast_eq]
  exact h t j (y 1) _ rfl

/-! ## The third call -/

theorem lt3 (t : Fin cfg3.N) : t.val < 8 := Nat.lt_of_lt_of_eq t.isLt N_3

theorem at3 : ∀ t : Fin cfg3.N, win3_0.index t = ![t.val, 0] ∧ win3_1.index t = ![t.val, 0] ∧ win3_2.index t = ![0, 0] ∧ win3_3.index t = ![0, 0]
    ∧ win3_4.index t = ![0, 0] ∧ win3_5.index t = ![t.val, 0] :=
  (by decide +kernel : ∀ t : Fin grid3.N, _)

section Call3

variable (t : Fin cfg3.N)

theorem final_0 (i : Fin 1024) (x : Fin 128) (n : Fin 8192) (h : n.val = t.val * 1024 + i.val) : Final.blk V d 0 t (ix2 i x) = most V d (ix2 n x) := by
  show V d main_v35_1 (((cfg3.win 0).blk t).view.emb (ix2 i x)) = _
  refine congrArg (V d main_v35_1) (funext fun a => Fin.ext ?_)
  match a with
  | ⟨0, _⟩ => blk_simp [at3 t]; show t.val * 1024 + i.val = n.val; omega
  | ⟨1, _⟩ => blk_simp [at3 t]

theorem final_1 (i : Fin 1024) (x : Fin 128) (n : Fin 8192) (h : n.val = t.val * 1024 + i.val) : Final.blk V d 1 t (ix2 i x) = least V d (ix2 n x) := by
  show V d main_v35_2 (((cfg3.win 1).blk t).view.emb (ix2 i x)) = _
  refine congrArg (V d main_v35_2) (funext fun a => Fin.ext ?_)
  match a with
  | ⟨0, _⟩ => blk_simp [at3 t]; show t.val * 1024 + i.val = n.val; omega
  | ⟨1, _⟩ => blk_simp [at3 t]

theorem final_2 : Final.blk V d 2 t = sums2 V d := by
  funext j
  show V d main_v35_0 (((cfg3.win 2).blk t).view.emb j) = _
  refine congrArg (V d main_v35_0) (funext fun a => Fin.ext ?_)
  match a with
  | ⟨0, _⟩ => blk_simp [at3 t]
  | ⟨1, _⟩ => blk_simp [at3 t]

theorem final_3 : Final.blk V d 3 t = gain2 V d := by
  funext j
  show V d main_v29 (((cfg3.win 3).blk t).view.emb j) = _
  refine congrArg (V d main_v29) (funext fun a => Fin.ext ?_)
  match a with
  | ⟨0, _⟩ => blk_simp [at3 t]
  | ⟨1, _⟩ => blk_simp [at3 t]

theorem final_4 : Final.blk V d 4 t = offset2 V d := by
  funext j
  show V d main_v30 (((cfg3.win 4).blk t).view.emb j) = _
  refine congrArg (V d main_v30) (funext fun a => Fin.ext ?_)
  match a with
  | ⟨0, _⟩ => blk_simp [at3 t]
  | ⟨1, _⟩ => blk_simp [at3 t]

/-- An entry of the third call's result, from the second layer's entries `Z`. -/
theorem final_out (Z : Fin 128 → Fin 8192 → Fin 32 → ℝ) (gR : Fin 128 → ℝ)
    (h0 : ∀ o, sums2 V d (ix2 0 o) = ((total (Z o) : ℝ) : EReal)) (h1 : ∀ o, sums2 V d (ix2 1 o) = ((total fun a k => Z o a k * Z o a k : ℝ) : EReal))
    (hg : ∀ o, gain2 V d (ix2 0 o) = (gR o : EReal))
    (hu : ∀ a o, most V d (ix2 a o) = Finset.univ.fold max ⊥ fun k : Fin 32 => (Z o a k : EReal))
    (hv : ∀ a o, least V d (ix2 a o) = Finset.univ.fold min ⊤ fun k : Fin 32 => (Z o a k : EReal))
    (j : Fin 1024) (o : Fin 128) (a : Fin 8192) (h : a.val = t.val * 1024 + j.val) :
    Final.out V d t (ix2 j o) = Finset.univ.fold max ⊥ fun k : Fin 32 =>
      max ((Z o a k : EReal) * (scale (Z o) (gR o) : EReal) + (offset2 V d (ix2 0 o) - ((mean (Z o) * scale (Z o) (gR o) : ℝ) : EReal))) 0 := by
  unfold Final.out Final.outOf
  rw [final_2, final_3, final_4]
  exact final_real _ _ _ _ _ _ j o (Z o) (gR o) a ((sum_row0 _ o).trans (h0 o)) ((sum_row1 _ o).trans (h1 o)) (hg o)
    ((final_0 V d t j o a h).trans (hu a o)) ((final_1 V d t j o a h).trans (hv a o))

end Call3

/-- What the third call leaves. -/
theorem final_left (G : Vec Ideal S8192x128 .f32)
    (h : ∀ (t : Fin cfg3.N) (j : Fin 1024) (o : Fin 128) (a : Fin 8192), a.val = t.val * 1024 + j.val → Final.out V d t (ix2 j o) = G (ix2 a o)) :
    (Final.dat V d).arrAt 5 cfg3.N = G := by
  refine (Final.dat V d).arrAt_eq_of_covers 5 _ (by decide +kernel) fun t _ y => ?_
  rw [Final.after_5]
  have ht := lt3 t
  obtain ⟨j, hj⟩ : ∃ j : Fin 1024, j.val = (y 0).val := ⟨⟨(y 0).val, (y 0).isLt⟩, rfl⟩
  have e1 : ((cfg3.win 5).blk t).view.emb y = ix2 ⟨t.val * 1024 + j.val, by omega⟩ (y 1) := by
    funext a
    refine Fin.ext ?_
    match a with
    | ⟨0, _⟩ => blk_simp [at3 t]; exact congrArg (t.val * 1024 + ·) hj.symm
    | ⟨1, _⟩ => blk_simp [at3 t]; rfl
  have e2 : (cfg3.win 5).xinj (cfg3.grid.coords t) y = ix2 j (y 1) := by
    funext a
    refine Fin.ext ?_
    match a with
    | ⟨0, _⟩ => exact hj.symm
    | ⟨1, _⟩ => rfl
  rw [e1, e2, cast_eq]
  exact h t j (y 1) _ rfl

end Cert.Proof.Blocks

end
-- ==== Proof.Agree.lean ====
/-
  The two programs agree at `Ideal`: with the row numbers in range and the floats finite, the kernel's first layer is the
  reference's row by row, so the sums over all rows are the reference's, so the second layer is, and so is the result.
-/
module

public import proofs.«01_k».proof.Proof.Host
public import proofs.«01_k».proof.Proof.Blocks
public import proofs.«01_k».proof.Proof.RefVal

@[expose] public section

noncomputable section

namespace Cert.Proof.Agree

open Cert.KernelIdeal Cert.KernelIdeal.Gen
open Idealize.ShloMosaic Idealize.ShloMosaic.TcCoe Idealize.ShloMosaic.StableHlo
open Cert.Proof.Norm Cert.Proof.Rows Cert.Proof.Regs
open scoped BigOperators

/-! ## One row of the first layer -/

theorem sum_pieces (f : Fin 128 → ℝ) :
    ∑ x, f x = ∑ x : Fin 64, f ⟨x.val, by omega⟩ + (∑ x : Fin 3, f ⟨64 + x.val, by omega⟩ + ∑ x : Fin 61, f ⟨64 + (3 + x.val), by omega⟩) := by
  refine (Fin.sum_univ_add (a := 64) (b := 64) f).trans ?_
  refine congrArg (∑ x : Fin 64, f ⟨x.val, by omega⟩ + ·) ?_
  exact Fin.sum_univ_add (a := 3) (b := 61) fun x => f (Fin.natAdd 64 x)

/-- The row's product with the padded weights, less the centre's with the points' weights, is the neighbour's offset and
    features times the weights. -/
theorem row_real (G wF : Fin 64 → ℝ) (P C wP : Fin 3 → ℝ) (b : ℝ) (u w : Fin 128 → EReal)
    (hu : ∀ x : Fin 128, u x = if h : x.val < 64 then (G ⟨x.val, h⟩ : EReal) else if h' : x.val - 64 < 3 then (P ⟨x.val - 64, h'⟩ : EReal) else 0)
    (hw : ∀ x : Fin 128, w x = if h : x.val < 64 then (wF ⟨x.val, h⟩ : EReal) else if h' : x.val - 64 < 3 then (wP ⟨x.val - 64, h'⟩ : EReal) else 0) :
    ∑ x, u x * w x - ∑ x, (C x : EReal) * (wP x : EReal) + (b : EReal) = ((∑ x, (P x - C x) * wP x + ∑ x, G x * wF x + b : ℝ) : EReal) := by
  have e (x : Fin 128) : u x * w x = ((if h : x.val < 64 then G ⟨x.val, h⟩ * wF ⟨x.val, h⟩ else if h' : x.val - 64 < 3 then P ⟨x.val - 64, h'⟩ * wP ⟨x.val - 64, h'⟩ else 0 : ℝ) : EReal) := by
    rw [hu, hw]
    by_cases h : x.val < 64
    · simp only [dif_pos h, EReal.coe_mul]
    · by_cases h' : x.val - 64 < 3
      · simp only [dif_neg h, dif_pos h', EReal.coe_mul]
      · simp only [dif_neg h, dif_neg h', mul_zero, EReal.coe_zero]
  rw [Finset.sum_congr rfl fun x _ => e x, coe_sum, sum_pieces, Finset.sum_congr rfl fun x _ => (EReal.coe_mul (C x) (wP x)).symm, coe_sum, ← EReal.coe_sub, ← EReal.coe_add]
  refine congrArg _ ?_
  have e1 : ∑ x : Fin 64, (if h : x.val < 64 then G ⟨x.val, h⟩ * wF ⟨x.val, h⟩ else if h' : x.val - 64 < 3 then P ⟨x.val - 64, h'⟩ * wP ⟨x.val - 64, h'⟩ else 0) = ∑ x, G x * wF x :=
    Finset.sum_congr rfl fun x _ => dif_pos x.isLt
  have e2 : ∑ x : Fin 3, (if h : 64 + x.val < 64 then G ⟨64 + x.val, h⟩ * wF ⟨64 + x.val, h⟩ else if h' : 64 + x.val - 64 < 3 then P ⟨64 + x.val - 64, h'⟩ * wP ⟨64 + x.val - 64, h'⟩ else 0)
      = ∑ x, P x * wP x := Finset.sum_congr rfl fun x _ => by
    rw [dif_neg (by omega), dif_pos (by omega)]
    simp only [Nat.add_sub_cancel_left]
  have e3 : ∑ x : Fin 61, (if h : 64 + (3 + x.val) < 64 then G ⟨64 + (3 + x.val), h⟩ * wF ⟨64 + (3 + x.val), h⟩
      else if h' : 64 + (3 + x.val) - 64 < 3 then P ⟨64 + (3 + x.val) - 64, h'⟩ * wP ⟨64 + (3 + x.val) - 64, h'⟩ else 0) = 0 :=
    Finset.sum_eq_zero fun x _ => by rw [dif_neg (by omega), dif_neg (by omega)]
  rw [e1, e2, e3, add_zero]
  simp only [sub_mul, Finset.sum_sub_distrib]
  ring

/-! ## The two programs -/

/-- Every entry is a real number. -/
abbrev Reals {s : Shape} (x : s.Idx → EReal) : Prop := ∀ j, x j = ((x j).toReal : EReal)

variable (m : (ℓ : Loc nD τ sig) → Buf (Elt Ideal) ℓ) (c : Dev nD) (V : Valuation Cert.ReferenceIdeal.τ Cert.ReferenceIdeal.sig (Elt Ideal))

abbrev xyz : S4x8192x3.Idx → EReal := m ((c.tc : Thread nD τ).loc main_arg0)
abbrev feats : S4x64x8192.Idx → EReal := m ((c.tc : Thread nD τ).loc main_arg1)
abbrev idx : S4x32x2048.Idx → BitVec 32 := m ((c.tc : Thread nD τ).loc main_arg2)
abbrev w1 : S64x67.Idx → EReal := m ((c.tc : Thread nD τ).loc main_arg3)
abbrev b1 : S64.Idx → EReal := m ((c.tc : Thread nD τ).loc main_arg4)
abbrev g1 : S64.Idx → EReal := m ((c.tc : Thread nD τ).loc main_arg5)
abbrev be1 : S64.Idx → EReal := m ((c.tc : Thread nD τ).loc main_arg6)
abbrev w2 : S128x64.Idx → EReal := m ((c.tc : Thread nD τ).loc main_arg7)
abbrev b2 : S128.Idx → EReal := m ((c.tc : Thread nD τ).loc main_arg8)
abbrev g2 : S128.Idx → EReal := m ((c.tc : Thread nD τ).loc main_arg9)
abbrev be2 : S128.Idx → EReal := m ((c.tc : Thread nD τ).loc main_arg10)
/-- The centres the kernel takes. -/
abbrev mid : S4x2048x3.Idx → EReal := W₁ m c (Proc.devRef .tc main_v8)

/-- What the value claim assumes: the row numbers are in range and the floats finite. -/
structure Ok : Prop where
  inRange : ∀ j, (idx m c j).toNat < 32768
  xyz : Reals (xyz m c)
  feats : Reals (feats m c)
  w1 : Reals (w1 m c)
  b1 : Reals (b1 m c)
  g1 : Reals (g1 m c)
  be1 : Reals (be1 m c)
  w2 : Reals (w2 m c)
  b2 : Reals (b2 m c)
  g2 : Reals (g2 m c)

/-- The reference's arguments are the kernel's. -/
structure Same : Prop where
  xyz : V (Proc.devRef .tc Cert.ReferenceIdeal.main_arg0) = xyz m c
  feats : V (Proc.devRef .tc Cert.ReferenceIdeal.main_arg1) = feats m c
  idx : V (Proc.devRef .tc Cert.ReferenceIdeal.main_arg2) = idx m c
  w1 : V (Proc.devRef .tc Cert.ReferenceIdeal.main_arg3) = w1 m c
  b1 : V (Proc.devRef .tc Cert.ReferenceIdeal.main_arg4) = b1 m c
  g1 : V (Proc.devRef .tc Cert.ReferenceIdeal.main_arg5) = g1 m c
  be1 : V (Proc.devRef .tc Cert.ReferenceIdeal.main_arg6) = be1 m c
  w2 : V (Proc.devRef .tc Cert.ReferenceIdeal.main_arg7) = w2 m c
  b2 : V (Proc.devRef .tc Cert.ReferenceIdeal.main_arg8) = b2 m c
  g2 : V (Proc.devRef .tc Cert.ReferenceIdeal.main_arg9) = g2 m c
  be2 : V (Proc.devRef .tc Cert.ReferenceIdeal.main_arg10) = be2 m c

/-- The row number of centre `a`'s neighbour `k`. -/
def rowNo (a : Fin 8192) (k : Fin 32) : Fin 32768 :=
  ⟨(idx m c (ix3 ⟨a.val / 2048, by omega⟩ k ⟨a.val % 2048, by omega⟩)).toNat % 32768, Nat.mod_lt _ (by decide)⟩

/-- The first layer, channel by channel, over the reals. -/
def first (o : Fin 64) (a : Fin 8192) (k : Fin 32) : ℝ :=
  ∑ x : Fin 3, ((xyz m c (ix3 ⟨(rowNo m c a k).val / 8192, by omega⟩ ⟨(rowNo m c a k).val % 8192, by omega⟩ x)).toReal
      - (mid m c (ix3 ⟨a.val / 2048, by omega⟩ ⟨a.val % 2048, by omega⟩ x)).toReal) * (w1 m c (ix2 o ⟨x.val, by omega⟩)).toReal
    + ∑ x : Fin 64, (feats m c (ix3 ⟨(rowNo m c a k).val / 8192, by omega⟩ x ⟨(rowNo m c a k).val % 8192, by omega⟩)).toReal * (w1 m c (ix2 o ⟨3 + x.val, by omega⟩)).toReal
    + (b1 m c (ix1 o)).toReal

/-- The second layer. -/
def second (o : Fin 128) (a : Fin 8192) (k : Fin 32) : ℝ :=
  Blocks.second (first m c) (fun x => (g1 m c (ix1 x)).toReal) (fun x => (be1 m c (ix1 x)).toReal) (fun o x => (w2 m c (ix2 o x)).toReal)
    (fun o => (b2 m c (ix1 o)).toReal) o a k

/-- A group's normalised maximum. -/
def answer (a : Fin 8192) (o : Fin 128) : EReal :=
  Finset.univ.fold max ⊥ fun k : Fin 32 => max ((second m c o a k : EReal) * (scale (second m c o) (g2 m c (ix1 o)).toReal : EReal)
    + (be2 m c (ix1 o) - ((mean (second m c o) * scale (second m c o) (g2 m c (ix1 o)).toReal : ℝ) : EReal))) 0

variable {m c V}

/-- Every centre is a point. -/
theorem mid_real (hs : Same m c V) (h : Ok m c) : Reals (mid m c) := by
  intro j
  have e : ∃ i, mid m c j = xyz m c i := by
    rw [show mid m c = RefVal.centres V from Host.centres_eq c m V hs.xyz, ← hs.xyz]
    exact ⟨_, rfl⟩
  obtain ⟨i, e⟩ := e
  rw [e]
  exact h.xyz i

/-! ### The reference -/

theorem ref_first (hs : Same m c V) (h : Ok m c) (o : Fin 64) (a : Fin 8192) (k : Fin 32) :
    Cert.ReferenceIdeal.Value.res_main_v38 V (ix3 a o k) = (first m c o a k : EReal) := by
  rw [RefVal.y1_eq]
  refine (RefVal.conv1_apply _ _ _ _ _ a o k).trans ?_
  have hr : (Points.idxOf V (ix3 ⟨a.val / 2048, by omega⟩ k ⟨a.val % 2048, by omega⟩)).toNat < 32768 := by
    rw [show Points.idxOf V = idx m c from hs.idx]; exact h.inRange _
  have hn : Points.rowNo V ⟨a.val / 2048, by omega⟩ ⟨a.val % 2048, by omega⟩ k = rowNo m c a k := by
    refine Fin.ext ?_
    show (Points.idxOf V _).toNat % 32768 = (idx m c _).toNat % 32768
    rw [show Points.idxOf V = idx m c from hs.idx]
  unfold first
  rw [EReal.coe_add, EReal.coe_add, ← coe_sum, ← coe_sum]
  refine congrArg₂ (· + ·) (congrArg₂ (· + ·) (Finset.sum_congr rfl fun x _ => ?_) (Finset.sum_congr rfl fun x _ => ?_)) ?_
  · have e := (Points.nearXyz_apply V _ _ k x hr).trans ((congrArg (fun n : Fin 32768 => Points.xyzOf V (ix3 ⟨n.val / 8192, by omega⟩ ⟨n.val % 8192, by omega⟩ x)) hn).trans
      (congrFun hs.xyz _))
    rw [e, ← Host.centres_eq c m V hs.xyz, EReal.coe_mul, EReal.coe_sub, hs.w1]
    exact congrArg₂ (· * ·) (congrArg₂ (· - ·) (h.xyz _) (mid_real hs h _)) (h.w1 _)
  · have e := (Points.nearFeats_apply V _ _ k x hr).trans ((congrArg (fun n : Fin 32768 => Points.featsOf V (ix3 ⟨n.val / 8192, by omega⟩ x ⟨n.val % 8192, by omega⟩)) hn).trans
      (congrFun hs.feats _))
    rw [e, EReal.coe_mul, hs.w1]
    exact congrArg₂ (· * ·) (h.feats _) (h.w1 _)
  · rw [hs.b1]; exact h.b1 _

theorem ref_second (hs : Same m c V) (h : Ok m c) (o : Fin 128) (a : Fin 8192) (k : Fin 32) :
    Cert.ReferenceIdeal.Value.res_main_v62 V (ix3 a o k) = (second m c o a k : EReal) := by
  rw [RefVal.y2_eq]
  refine (RefVal.conv2_apply _ _ _ a o k).trans ?_
  unfold second Blocks.second
  rw [EReal.coe_add, ← coe_sum]
  refine congrArg₂ (· + ·) (Finset.sum_congr rfl fun x _ => ?_) ?_
  · rw [RefVal.normed_act _ _ _ _ _ _ x (first m c x) (fun a k => ref_first hs h x a k) _ _ _ _ ((congrFun hs.g1 _).trans (h.g1 (ix1 x))) ((congrFun hs.be1 _).trans (h.be1 (ix1 x))) a k,
      EReal.coe_mul, hs.w2, ← h.w2]
  · rw [hs.b2]; exact h.b2 _

theorem ref_answer (hs : Same m c V) (h : Ok m c) (b : Fin 4) (o : Fin 128) (p : Fin 2048) :
    RefVal.result (RefVal.top V) (ix3 b o p) = answer m c ⟨b.val * 2048 + p.val, by omega⟩ o := by
  refine (RefVal.result_apply _ b o p).trans (Finset.fold_congr fun k _ => ?_)
  unfold RefVal.top
  refine (RefVal.normed_real _ _ _ _ _ _ o (second m c o) (fun a k => ref_second hs h o a k) _ _ _ ((congrFun hs.g2 _).trans (h.g2 (ix1 o))) _ k).trans ?_
  rw [hs.be2]

/-! ### The kernel -/

/-- The kernel's row, entry by entry. -/
theorem kernel_row (hs : Same m c V) (h : Ok m c) (n : Fin 262144) (o : Fin 64) :
    Blocks.row (at_ (W₃ m)) c n o = (Blocks.point (first m c o) n.val : EReal) := by
  have hn := n.isLt
  obtain ⟨a, ha⟩ : ∃ a : Fin 8192, a.val = n.val / 32 := ⟨⟨n.val / 32, by omega⟩, rfl⟩
  obtain ⟨k, hk⟩ : ∃ k : Fin 32, k.val = n.val % 32 := ⟨⟨n.val % 32, by omega⟩, rfl⟩
  rw [Blocks.point_of (first m c o) a k n.val (by omega)]
  have hrow : (⟨(Points.rowNos (idx m c) (ix1 n)).toNat % 32768, Nat.mod_lt _ (by decide)⟩ : Fin 32768) = rowNo m c a k := by
    refine Fin.ext ?_
    show (Points.rowNos (idx m c) (ix1 n)).toNat % 32768 = (idx m c _).toNat % 32768
    rw [Points.rowNos_apply]
    refine congrArg (fun j => (idx m c j).toNat % 32768) (funext fun e => Fin.ext ?_)
    match e with
    | ⟨0, _⟩ => show n.val / 65536 = a.val / 2048; omega
    | ⟨1, _⟩ => exact hk.symm
    | ⟨2, _⟩ => show n.val / 32 % 2048 = a.val % 2048; rw [ha]
  have e15 (x : Fin 128) : at_ (W₃ m) c main_v15 (ix2 n x) = Points.entry (F := Ideal) (xyz m c) (feats m c) (rowNo m c a k) x :=
    ((congrFun (Host.rows_eq m c) _).trans (Points.rowsOf_apply (F := Ideal) (xyz m c) (feats m c) (idx m c) n x)).trans (congrArg (fun r => Points.entry (F := Ideal) (xyz m c) (feats m c) r x) hrow)
  have e21 (x : Fin 128) := (congrFun (Host.padded_eq m c) (ix2 x o)).trans (Host.padded_apply (F := Ideal) (w1 m c) x o)
  have e23 (x : Fin 3) : at_ (W₃ m) c main_v23 (ix2 x o) = w1 m c (ix2 o ⟨x.val, by omega⟩) :=
    (congrFun (Host.pointWeights_eq m c) _).trans (Host.pointWeights_apply (F := Ideal) (w1 m c) x o)
  have e33 (x : Fin 3) : at_ (W₃ m) c main_v33 (ix2 n x) = mid m c (ix3 ⟨a.val / 2048, by omega⟩ ⟨a.val % 2048, by omega⟩ x) := by
    refine (congrFun (Host.repeat_eq m c) _).trans ((Host.repeat_apply (F := Ideal) (mid m c) n x).trans ?_)
    refine congrArg (mid m c) (funext fun e => Fin.ext ?_)
    match e with
    | ⟨0, _⟩ => show n.val / 32 / 2048 = a.val / 2048; rw [ha]
    | ⟨1, _⟩ => show n.val / 32 % 2048 = a.val % 2048; rw [ha]
    | ⟨2, _⟩ => rfl
  have e25 : at_ (W₃ m) c main_v25 (ix2 0 o) = b1 m c (ix1 o) := Host.lane_v25 m c o
  have e3 (x : Fin 3) : Blocks.repeated (at_ (W₃ m)) c (ix2 n x) * Blocks.shifts (at_ (W₃ m)) c (ix2 x o)
      = ((mid m c (ix3 ⟨a.val / 2048, by omega⟩ ⟨a.val % 2048, by omega⟩ x)).toReal : EReal) * ((w1 m c (ix2 o ⟨x.val, by omega⟩)).toReal : EReal) :=
    congrArg₂ (fun u v : EReal => u * v) ((e33 x).trans (mid_real hs h _)) ((e23 x).trans (h.w1 _))
  have e5 : Blocks.bias (at_ (W₃ m)) c (ix2 0 o) = ((b1 m c (ix1 o)).toReal : EReal) := e25.trans (h.b1 _)
  unfold Blocks.row
  rw [Finset.sum_congr rfl fun x _ => e3 x, e5]
  refine row_real (fun x => (feats m c (ix3 ⟨(rowNo m c a k).val / 8192, by omega⟩ x ⟨(rowNo m c a k).val % 8192, by omega⟩)).toReal)
    (fun x => (w1 m c (ix2 o ⟨3 + x.val, by omega⟩)).toReal)
    (fun x => (xyz m c (ix3 ⟨(rowNo m c a k).val / 8192, by omega⟩ ⟨(rowNo m c a k).val % 8192, by omega⟩ x)).toReal)
    (fun x => (mid m c (ix3 ⟨a.val / 2048, by omega⟩ ⟨a.val % 2048, by omega⟩ x)).toReal) (fun x => (w1 m c (ix2 o ⟨x.val, by omega⟩)).toReal) _
    (fun x => Blocks.gathered (at_ (W₃ m)) c (ix2 n x)) (fun x => Blocks.weights (at_ (W₃ m)) c (ix2 x o)) (fun x => (e15 x).trans ?_) fun x => (e21 x).trans ?_
  · unfold Points.entry
    split
    · exact h.feats _
    · split
      · exact h.xyz _
      · exact Ideal.ofBits_zero_f32
  · split
    · exact h.w1 _
    · split
      · exact h.w1 _
      · exact Ideal.ofBits_zero_f32

/-- The first call leaves the other arrays as they were. -/
theorem kept4 (b : Ref sig .tc) (hb : Host.Reads 0 b) : at_ (W₄ m) c b = at_ (W₃ m) c b := left_of_in (W₃ m) 0 c b hb

theorem kept5 (b : Ref sig .tc) (h0 : Host.Reads 0 b) (h1 : Host.Reads 1 b) : at_ (W₅ m) c b = at_ (W₃ m) c b :=
  (left_of_in (W₄ m) 1 c b h1).trans (left_of_in (W₃ m) 0 c b h0)

section Calls

variable (hs : Same m c V) (h : Ok m c)
include hs h

/-! #### After the first call -/

theorem sums1_eq (o : Fin 64) : at_ (W₄ m) c main_v34 (ix2 0 o) = ((total (first m c o) : ℝ) : EReal)
    ∧ at_ (W₄ m) c main_v34 (ix2 1 o) = ((total fun a k => first m c o a k * first m c o a k : ℝ) : EReal) := by
  have e : at_ (W₄ m) c main_v34 = Stats.sums (at_ (W₃ m)) c 127 Blocks.last1.isLt :=
    (left_arr (W₃ m) 0 c 5).trans (Blocks.stat_left (at_ (W₃ m)) c)
  obtain ⟨i0, i1⟩ := Blocks.stat_sums (at_ (W₃ m)) c (first m c) (kernel_row hs h) o 127 Blocks.last1.isLt
  rw [e]
  refine ⟨i0.trans (congrArg _ (Blocks.total_blocks (first m c o))), i1.trans (congrArg _ ?_)⟩
  rw [← Blocks.total_blocks]
  exact Finset.sum_congr rfl fun t _ => Finset.sum_congr rfl fun i _ => (Blocks.point_sq _ _).symm

theorem row4 (n : Fin 262144) (o : Fin 64) : Blocks.row (at_ (W₄ m)) c n o = (Blocks.point (first m c o) n.val : EReal) := by
  have e : Blocks.row (at_ (W₄ m)) c n o = Blocks.row (at_ (W₃ m)) c n o := by
    have e15 : Blocks.gathered (at_ (W₄ m)) c = Blocks.gathered (at_ (W₃ m)) c := kept4 main_v15 (by decide)
    have e33 : Blocks.repeated (at_ (W₄ m)) c = Blocks.repeated (at_ (W₃ m)) c := kept4 main_v33 (by decide)
    have e21 : Blocks.weights (at_ (W₄ m)) c = Blocks.weights (at_ (W₃ m)) c := kept4 main_v21 (by decide)
    have e23 : Blocks.shifts (at_ (W₄ m)) c = Blocks.shifts (at_ (W₃ m)) c := kept4 main_v23 (by decide)
    have e25 : Blocks.bias (at_ (W₄ m)) c = Blocks.bias (at_ (W₃ m)) c := kept4 main_v25 (by decide)
    unfold Blocks.row
    rw [e15, e33, e21, e23, e25]
  exact e.trans (kernel_row hs h n o)

theorem gain1_eq (o : Fin 64) : Blocks.gain1 (at_ (W₄ m)) c (ix2 0 o) = ((g1 m c (ix1 o)).toReal : EReal) :=
  ((congrFun (kept4 main_v26 (by decide)) _).trans (Host.lane_v26 m c o)).trans (h.g1 _)
theorem offset1_eq (o : Fin 64) : Blocks.offset1 (at_ (W₄ m)) c (ix2 0 o) = ((be1 m c (ix1 o)).toReal : EReal) :=
  ((congrFun (kept4 main_v27 (by decide)) _).trans (Host.lane_v27 m c o)).trans (h.be1 _)
theorem weights2_eq (o : Fin 128) (x : Fin 64) : Blocks.weights2 (at_ (W₄ m)) c (ix2 x o) = ((w2 m c (ix2 o x)).toReal : EReal) :=
  ((congrFun (kept4 main_v24 (by decide)) _).trans (Host.weights2_eq m c x o)).trans (h.w2 _)
theorem bias2_eq (o : Fin 128) : Blocks.bias2 (at_ (W₄ m)) c (ix2 0 o) = ((b2 m c (ix1 o)).toReal : EReal) :=
  ((congrFun (kept4 main_v28 (by decide)) _).trans (Host.lane_v28 m c o)).trans (h.b2 _)

/-! #### After the second call -/

theorem sums2_eq (o : Fin 128) : at_ (W₅ m) c main_v35_0 (ix2 0 o) = ((total (second m c o) : ℝ) : EReal)
    ∧ at_ (W₅ m) c main_v35_0 (ix2 1 o) = ((total fun a k => second m c o a k * second m c o a k : ℝ) : EReal) := by
  have e : at_ (W₅ m) c main_v35_0 = Layer.sums (at_ (W₄ m)) c 127 Blocks.last2.isLt :=
    (left_arr (W₄ m) 1 c 10).trans (Blocks.layer_left_sums (at_ (W₄ m)) c)
  obtain ⟨i0, i1⟩ := Blocks.layer_sums (at_ (W₄ m)) c (first m c) _ _ _ _ (row4 hs h) (fun o => (sums1_eq hs h o).1) (fun o => (sums1_eq hs h o).2)
    (gain1_eq hs h) (offset1_eq hs h) (weights2_eq hs h) (bias2_eq hs h) o 127 Blocks.last2.isLt
  rw [e]
  refine ⟨i0.trans (congrArg _ (Blocks.total_blocks (second m c o))), i1.trans (congrArg _ ?_)⟩
  rw [← Blocks.total_blocks]
  exact Finset.sum_congr rfl fun t _ => Finset.sum_congr rfl fun i _ => (Blocks.point_sq _ _).symm

theorem most_eq : at_ (W₅ m) c main_v35_1 = fun x => Finset.univ.fold max ⊥ fun k : Fin 32 => (second m c (x 1) (x 0) k : EReal) :=
  (left_arr (W₄ m) 1 c 11).trans (Blocks.layer_left_most (at_ (W₄ m)) c _ fun t j o a ha =>
    Blocks.most_real (at_ (W₄ m)) c (first m c) _ _ _ _ (row4 hs h) (fun o => (sums1_eq hs h o).1) (fun o => (sums1_eq hs h o).2)
      (gain1_eq hs h) (offset1_eq hs h) (weights2_eq hs h) (bias2_eq hs h) t j o a ha)

theorem least_eq : at_ (W₅ m) c main_v35_2 = fun x => Finset.univ.fold min ⊤ fun k : Fin 32 => (second m c (x 1) (x 0) k : EReal) :=
  (left_arr (W₄ m) 1 c 12).trans (Blocks.layer_left_least (at_ (W₄ m)) c _ fun t j o a ha =>
    Blocks.least_real (at_ (W₄ m)) c (first m c) _ _ _ _ (row4 hs h) (fun o => (sums1_eq hs h o).1) (fun o => (sums1_eq hs h o).2)
      (gain1_eq hs h) (offset1_eq hs h) (weights2_eq hs h) (bias2_eq hs h) t j o a ha)

theorem gain2_eq (o : Fin 128) : Blocks.gain2 (at_ (W₅ m)) c (ix2 0 o) = ((g2 m c (ix1 o)).toReal : EReal) :=
  ((congrFun (kept5 main_v29 (by decide) (by decide)) _).trans (Host.lane_v29 m c o)).trans (h.g2 _)
theorem offset2_eq (o : Fin 128) : Blocks.offset2 (at_ (W₅ m)) c (ix2 0 o) = be2 m c (ix1 o) :=
  (congrFun (kept5 main_v30 (by decide) (by decide)) _).trans (Host.lane_v30 m c o)

/-! #### After the third call -/

theorem out_eq : at_ (W₆ m) c main_v36 = fun x => answer m c (x 0) (x 1) :=
  (left_arr (W₅ m) 2 c 5).trans (Blocks.final_left (at_ (W₅ m)) c _ fun t j o a ha => by
    refine (Blocks.final_out (at_ (W₅ m)) c t (second m c) (fun o => (g2 m c (ix1 o)).toReal) (fun o => (sums2_eq hs h o).1) (fun o => (sums2_eq hs h o).2) (gain2_eq hs h)
      (fun a o => congrFun (most_eq hs h) _) (fun a o => congrFun (least_eq hs h) _) j o a ha).trans ?_
    rw [offset2_eq hs h o]
    rfl)

/-- The kernel's second result is the reference's. -/
theorem results_eq : W₇ m c (Proc.devRef .tc main_v38) = RefVal.result (RefVal.top V) := by
  refine funext fun (x : S4x128x2048.Idx) => ?_
  obtain ⟨b, o, p, rfl⟩ : ∃ (b : Fin 4) (o : Fin 128) (p : Fin 2048), x = ix3 b o p := ⟨x 0, x 1, x 2, eq_ix3 x⟩
  exact ((Host.result_eq m c b o p).trans (congrFun (out_eq hs h) _)).trans (ref_answer hs h b o p).symm

end Calls

end Cert.Proof.Agree

end
-- ==== Proof.Text.lean ====
/-
  The kernel as printed and the kernel printed for the ideal reading are one text: the same threads, and for every label
  and processor the same body. The bodies are compared one label at a time.
-/
module

public import proofs.«01_k».proof.Defs
public import proofs.«01_k».proof.Proof.Gen.Kernel
public import proofs.«01_k».proof.Proof.Gen.KernelIdeal

@[expose] public section

noncomputable section

namespace Cert.Proof.Text

open Idealize.ShloMosaic Idealize.SL.Sem

set_option maxHeartbeats 8000000 in
/-- The bodies of the calls. -/
theorem bodies_eq : Cert.Kernel.defs₀ (F := Bits) = Cert.KernelIdeal.defs₀ (F := Bits) := by
  funext p ℓ a
  cases p <;> match ℓ, a with
    | 0, a => rfl
    | 1, (t, s) => rfl
    | 2, (t, s) => rfl
    | 3, (t, s) => rfl

set_option maxHeartbeats 1000000 in
/-- All bodies, the pipelines' own among them. -/
theorem defs_eq : Cert.Kernel.defs (F := Bits) = Cert.KernelIdeal.defs (F := Bits) :=
  congrArg (fun d => Cert.KernelIdeal.sc.defs (Pipeline.defs Cert.KernelIdeal.pcfgs d)) bodies_eq

set_option maxHeartbeats 1000000 in
/-- The threads. -/
theorem threads_eq : Cert.Kernel.threads (F := Bits) = Cert.KernelIdeal.threads (F := Bits) := rfl

end Cert.Proof.Text

end
-- ==== Proof.lean ====
/-
  The certificate: the kernel from the neighbour row numbers on, and its reference (Defs.lean). The kernel's run is
  Proof/Launch.lean's at either instance (the two programs have the same text); that its two results are the
  reference's is Proof/Host.lean's and Proof/Agree.lean's. Here the two preconditions are read back and the claims put
  together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_idx_in_rows
public import proofs.«01_k».proof.Proof.Gen.Pre_rows_and_finite
public import proofs.«01_k».proof.Proof.Gen.ReferenceIdeal.Run
public import proofs.«01_k».proof.Proof.Agree
public import proofs.«01_k».proof.Proof.Text
public import Idealize.ShloMosaic.Lib.Quiescent
public import Idealize.ShloMosaic.Lib.ReduceAll
public import Idealize.ShloMosaic.Adequacy
public import Idealize.ShloMosaic.Init

@[expose] public section

noncomputable section

namespace Cert.Proof

open Idealize.ShloMosaic Idealize.SL.Sem Idealize.ShloMosaic.TcCoe Idealize.ShloMosaic.StableHlo

/-! ## The kernel's final memory, read at the arrays the claims name -/

section Kernel

open Cert.KernelIdeal Cert.KernelIdeal.Gen

variable {F : FTy → Type} [FloatOps F] (m : (ℓ : Loc nD τ sig) → Buf (Elt F) ℓ)

/-- The kernel's run: its two results are what the operations leave, the arguments are unchanged, every counter ends at
    zero. -/
theorem run_kernel [∀ e, Nonempty (Elt F e)] (ρ : Dev nD → PrngReg)
    (hix : ∀ (d : Dev nD) (j : S4x32x2048.Idx), (m ((d.tc : Thread nD τ).loc main_arg2) j : BitVec 32).toNat < 32768) :
    θ_run (Cert.KernelIdeal.defs (F := F)) (Cert.KernelIdeal.threads (F := F)) ⟨m, fun _ => 0, ρ⟩ fun r => (∀ c : Dev nD,
      r.2.mem ((c.tc : Thread nD τ).loc main_v8) = Rows.W₇ m c (Proc.devRef .tc main_v8)
      ∧ r.2.mem ((c.tc : Thread nD τ).loc main_v38) = Rows.W₇ m c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0 :=
  (θ_run Cert.KernelIdeal.defs _ _).mono
    (fun _ h => ⟨fun c => ⟨h.1 c (Proc.devRef .tc main_v8) (by decide), h.1 c (Proc.devRef .tc main_v38) (by decide),
      (h.1 c (Proc.devRef .tc main_arg0) (by decide)).trans (Host.arg0_eq m c),
      (h.1 c (Proc.devRef .tc main_arg1) (by decide)).trans (Host.arg1_eq m c),
      (h.1 c (Proc.devRef .tc main_arg2) (by decide)).trans (Host.arg2_eq m c),
      (h.1 c (Proc.devRef .tc main_arg3) (by decide)).trans (Host.arg3_eq m c),
      (h.1 c (Proc.devRef .tc main_arg4) (by decide)).trans (Host.arg4_eq m c),
      (h.1 c (Proc.devRef .tc main_arg5) (by decide)).trans (Host.arg5_eq m c),
      (h.1 c (Proc.devRef .tc main_arg6) (by decide)).trans (Host.arg6_eq m c),
      (h.1 c (Proc.devRef .tc main_arg7) (by decide)).trans (Host.arg7_eq m c),
      (h.1 c (Proc.devRef .tc main_arg8) (by decide)).trans (Host.arg8_eq m c),
      (h.1 c (Proc.devRef .tc main_arg9) (by decide)).trans (Host.arg9_eq m c),
      (h.1 c (Proc.devRef .tc main_arg10) (by decide)).trans (Host.arg10_eq m c)⟩, h.2⟩)
    (Rows.run_main m ρ fun d => by rw [Host.ix_eq]; exact Points.rowNos_inRows _ (hix d))

end Kernel

/-! ## The preconditions, read back -/

theorem ok_kernel (m : (ℓ : Loc Cert.Kernel.nD Cert.Kernel.τ Cert.Kernel.sig) → Buf (Elt Bits) ℓ) (h : Cert.Pre_Kernel m) (d : Dev Cert.Kernel.nD)
    (j : Cert.Kernel.S4x32x2048.Idx) : (m ((d.tc : Thread Cert.Kernel.nD Cert.Kernel.τ).loc Cert.Kernel.main_arg2) j : BitVec 32).toNat < 32768 := by
  have e := congrFun (h d) j
  simp only [Pre_idx_in_rows.fn, andi, cmpi, broadcastInDim, constantI] at e
  exact Points.in_range _ e

theorem ok_ideal (m : (ℓ : Loc Cert.KernelIdeal.nD Cert.KernelIdeal.τ Cert.KernelIdeal.sig) → Buf (Elt Ideal) ℓ) (h : Cert.Pre_KernelIdeal m)
    (d : Dev Cert.KernelIdeal.nD) (j : Cert.KernelIdeal.S4x32x2048.Idx) :
    (m ((d.tc : Thread Cert.KernelIdeal.nD Cert.KernelIdeal.τ).loc Cert.KernelIdeal.main_arg2) j : BitVec 32).toNat < 32768 := by
  have e := congrFun (h d) j
  simp only [Pre_idx_in_rows.fn, andi, cmpi, broadcastInDim, constantI] at e
  exact Points.in_range _ e

/-- An extended real whose magnitude is below infinity is a real. -/
theorem real_of_below (x : Ideal .f32) (e : FloatOps.cmpf .olt (FloatOps.hostAbsf x) (FloatOps.ofBits (F := Ideal) .f32 0x7F800000#32) = 1#1) :
    (x : EReal) = ((x : EReal).toReal : EReal) := by
  have e' : Ideal.cmp .olt (max (x : EReal) (-(x : EReal))) (Ideal.ofBits .f32 0x7F800000#32) = 1#1 := e
  rw [Norm.word_top] at e'
  have l : max (x : EReal) (-(x : EReal)) < ⊤ := by
    by_contra n
    simp [Ideal.cmp, n] at e'
  refine (EReal.coe_toReal (fun n => ?_) fun n => ?_).symm
  · rw [n] at l; simp at l
  · rw [n] at l; simp at l

/-- Every entry of an array that passes the finiteness test is a real. -/
theorem reals_of_all {s : Shape} {axes : List (Fin s.rank)} (x : FVec Ideal s .f32) (hb hr hu) (j)
    (e : Host.reduce IntOp.andi (cmpf .olt (Host.absf x) (broadcastInDim s ![] hb (constant Pre_rows_and_finite.S_ .f32 0x7F800000#32)))
      (constantI Pre_rows_and_finite.S_ 1 1#1) (axes := axes) (t := Pre_rows_and_finite.S_) (u := Pre_rows_and_finite.S_) hr hu j = 1#1) :
    ∀ i, (x i : EReal) = ((x i : EReal).toReal : EReal) := by
  intro i
  haveI : Subsingleton Pre_rows_and_finite.S_.Idx := ⟨fun a b => funext fun k => k.elim0⟩
  exact real_of_below _ (Host.reduce_andi_all _ _ hr hu j e i)

theorem ok_finite (m : (ℓ : Loc Cert.KernelIdeal.nD Cert.KernelIdeal.τ Cert.KernelIdeal.sig) → Buf (Elt Ideal) ℓ)
    (h : Cert.Pre_KernelIdeal_rows_and_finite m) (d : Dev Cert.KernelIdeal.nD) : Agree.Ok m d := by
  have e := congrFun (h d) (fun k => k.elim0)
  simp only [Pre_rows_and_finite.fn, Pre_rows_and_finite.fn_part1, Pre_rows_and_finite.fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e1⟩ := IntOp.andi_eq_one.1 e
  obtain ⟨e2, e0⟩ := IntOp.andi_eq_one.1 e
  haveI : Subsingleton Pre_rows_and_finite.S_.Idx := ⟨fun a b => funext fun k => k.elim0⟩
  exact {
    inRange := fun j => Points.in_range _ (Host.reduce_andi_all _ _ _ _ _ e2 j)
    xyz := reals_of_all _ _ _ _ _ e0
    feats := reals_of_all _ _ _ _ _ e1
    w1 := reals_of_all _ _ _ _ _ e3
    b1 := reals_of_all _ _ _ _ _ e4
    g1 := reals_of_all _ _ _ _ _ e5
    be1 := reals_of_all _ _ _ _ _ e6
    w2 := reals_of_all _ _ _ _ _ e7
    b2 := reals_of_all _ _ _ _ _ e8
    g2 := reals_of_all _ _ _ _ _ e9 }

/-! ## The claims -/

set_option maxHeartbeats 4000000 in
theorem frame_kernel : Cert.quiescent_Kernel := by
  intro m ρ h
  have k := (θ_run Cert.KernelIdeal.defs _ _).mono (fun _ h => And.intro (fun c => (h.1 c).2.2) h.2)
    (run_kernel (F := Bits) m ρ (ok_kernel m h))
  rw [Text.threads_eq, Text.defs_eq]
  exact k

theorem frame_ideal : Cert.quiescent_KernelIdeal := fun m ρ h =>
  (θ_run Cert.KernelIdeal.defs _ _).mono (fun _ h => ⟨fun c => (h.1 c).2.2, h.2⟩) (run_kernel (F := Ideal) m ρ (ok_ideal m h))

theorem frame_ideal_finite : Cert.quiescent_KernelIdeal_pre_rows_and_finite := fun m ρ h =>
  (θ_run Cert.KernelIdeal.defs _ _).mono (fun _ h => ⟨fun c => (h.1 c).2.2, h.2⟩)
    (run_kernel (F := Ideal) m ρ fun d => (ok_finite m h d).inRange)

set_option maxHeartbeats 4000000 in
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem frame_ref_finite : Cert.quiescent_ReferenceIdeal_pre_rows_and_finite := fun m ρ _ => frame_ref m ρ trivial

set_option maxHeartbeats 4000000 in
theorem algebraic : Cert.algebraic_KernelIdeal_ReferenceIdeal_pre_rows_and_finite := by
  intro m ρ m' ρ' hpre hagree
  refine ⟨_, _, (θ_run Cert.KernelIdeal.defs _ _).mono (fun _ h c => h.1 c)
    (run_kernel (F := Ideal) m ρ fun d => (ok_finite m hpre d).inRange), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact ((Host.centres_end m c).trans (Host.centres_eq c m (launchContents m' c) (hagree c).1)).symm
  · obtain ⟨h0, h1, h2, h3, h4, h5, h6, h7, h8, h9, h10⟩ := hagree c
    exact (Agree.results_eq ⟨h0, h1, h2, h3, h4, h5, h6, h7, h8, h9, h10⟩ (ok_finite m hpre c)).symm

theorem claim : Cert.Claim :=
  ⟨Cert.Kernel.Gen.facts, Cert.KernelIdeal.Gen.facts, Cert.ReferenceIdeal.Gen.facts, Cert.Pre_idx_in_rows.Gen.facts,
    Cert.Pre_rows_and_finite.Gen.facts, frame_kernel, frame_ideal, frame_ideal_finite, frame_ref, frame_ref_finite, trivial, algebraic⟩

end Cert.Proof

end
